-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S256x4096 : Shape := ⟨2, ![256, 4096]⟩
abbrev S4096x8192 : Shape := ⟨2, ![4096, 8192]⟩
abbrev S256x8192 : Shape := ⟨2, ![256, 8192]⟩
abbrev S_ : Shape := ⟨0, ![]⟩

class Facts : Prop where
  bitsLt_bf16_f32 : FTy.bits .bf16 < FTy.bits .f32
  bcast_S_S256x8192 : S_.BroadcastsInDim S256x8192 (![] : Fin 0 → Fin S256x8192.rank)
  dot_S256x4096_S4096x8192_S256x8192_1_0_0_1_n_n_wf : DotDims.WF S256x4096 S4096x8192 S256x8192 [1] [0] [0] [1] [] []

variable [Facts]

def dot_S256x4096_S4096x8192_S256x8192_1_0_0_1_n_n : DotDims S256x4096 S4096x8192 S256x8192 where
  lhsContracting := [1]
  rhsContracting := [0]
  lhsNonContracting := [0]
  rhsNonContracting := [1]
  lhsBatch := []
  rhsBatch := []
  wf := dot_S256x4096_S4096x8192_S256x8192_1_0_0_1_n_n_wf
def fn {F : FTy → Type} [FloatOps F] (main_arg0 : FVec F S256x4096 .bf16) (main_arg1 : FVec F S4096x8192 .bf16) : IVec S256x8192 1 :=
  let main_v0 : FVec F S256x4096 .f32 := (extf .f32 · bitsLt_bf16_f32) main_arg0
  let main_v1 : FVec F S4096x8192 .f32 := (extf .f32 · bitsLt_bf16_f32) main_arg1
  let main_v2 : FVec F S256x8192 .f32 := (fun l r => Host.dotGeneral dot_S256x4096_S4096x8192_S256x8192_1_0_0_1_n_n none l r) main_v0 main_v1
  let main_cst : FVec F S_ .f32 := constant S_ .f32 0xC2700000#32
  let main_v3 : FVec F S256x8192 .f32 := broadcastInDim S256x8192 ![] bcast_S_S256x8192 main_cst
  let main_v4 : IVec S256x8192 1 := cmpf .oge main_v2 main_v3
  let main_cst_0 : FVec F S_ .f32 := constant S_ .f32 0x42700000#32
  let main_v5 : FVec F S256x8192 .f32 := broadcastInDim S256x8192 ![] bcast_S_S256x8192 main_cst_0
  let main_v6 : IVec S256x8192 1 := cmpf .ole main_v2 main_v5
  let main_v7 : IVec S256x8192 1 := andi main_v4 main_v6
  let main_cst_1 : FVec F S_ .f32 := constant S_ .f32 0x7F800000#32
  let main_v8 : FVec F S256x8192 .f32 := broadcastInDim S256x8192 ![] bcast_S_S256x8192 main_cst_1
  let main_v9 : IVec S256x8192 1 := cmpf .oeq main_v2 main_v8
  let main_v10 : IVec S256x8192 1 := ori main_v7 main_v9
  main_v10
-- ==== Pre_in_range_ReferenceIdeal.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .bf16) : IVec S4096x8192 1 :=
  let main_v0 : FVec F S4096x4096 .f32 := (extf .f32 · bitsLt_bf16_f32) main_arg0
  let main_v1 : FVec F S4096x8192 .f32 := (extf .f32 · bitsLt_bf16_f32) main_arg1
  let main_v2 : FVec F S4096x8192 .f32 := (fun l r => Host.dotGeneral dot_S4096x4096_S4096x8192_S4096x8192_1_0_0_1_n_n none l r) main_v0 main_v1
  let main_cst : FVec F S_ .f32 := constant S_ .f32 0xC2700000#32
  let main_v3 : FVec F S4096x8192 .f32 := broadcastInDim S4096x8192 ![] bcast_S_S4096x8192 main_cst
  let main_v4 : IVec S4096x8192 1 := cmpf .oge main_v2 main_v3
  let main_cst_0 : FVec F S_ .f32 := constant S_ .f32 0x42700000#32
  let main_v5 : FVec F S4096x8192 .f32 := broadcastInDim S4096x8192 ![] bcast_S_S4096x8192 main_cst_0
  let main_v6 : IVec S4096x8192 1 := cmpf .ole main_v2 main_v5
  let main_v7 : IVec S4096x8192 1 := andi main_v4 main_v6
  let main_cst_1 : FVec F S_ .f32 := constant S_ .f32 0x7F800000#32
  let main_v8 : FVec F S4096x8192 .f32 := broadcastInDim S4096x8192 ![] bcast_S_S4096x8192 main_cst_1
  let main_v9 : IVec S4096x8192 1 := cmpf .oeq main_v2 main_v8
  let main_v10 : IVec S4096x8192 1 := ori main_v7 main_v9
  main_v10
-- ==== Kernel.lean ====
abbrev S256x4096 : Shape := ⟨2, ![256, 4096]⟩
abbrev S4096x8192 : Shape := ⟨2, ![4096, 8192]⟩
abbrev S_ : Shape := ⟨0, ![]⟩
abbrev S1 : Shape := ⟨1, ![1]⟩
abbrev S4096x512 : Shape := ⟨2, ![4096, 512]⟩
abbrev S16 : Shape := ⟨1, ![16]⟩
abbrev S256x512 : Shape := ⟨2, ![256, 512]⟩

abbrev nBuf : Space → Nat
  | .hbm => 9
  | .vmem => 7
  | .smem => 1
  | _ => 0

abbrev bufTy : (tb : Table) → Fin (tcTables nBuf tb) → BufTy
  | .hbm, ⟨0, _⟩ => ⟨S256x4096, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S256x4096, .bf16⟩
  | .local _ .vmem, ⟨5, _⟩ => ⟨S4096x512, .bf16⟩
  | .local _ .vmem, ⟨6, _⟩ => ⟨S4096x512, .bf16⟩
  | .local _ .smem, ⟨0, _⟩ => ⟨S1, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v6 : Ref sig .tc := ⟨.hbm, 8, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (v0 : BitVec 32) : Nat :=
  let c1_i32 : BitVec 32 := 1#32
  let v24 : BitVec 32 := Scalar.addi v0 c1_i32
  let c16_i32_12 : BitVec 32 := 16#32
  let v25 : BitVec 32 := Scalar.remsi v24 c16_i32_12
  v25.toNat

def k0_dev2 (v0 : BitVec 32) : Nat :=
  let c2_i32 : BitVec 32 := 2#32
  let v26 : BitVec 32 := Scalar.addi v0 c2_i32
  let c16_i32_14 : BitVec 32 := 16#32
  let v27 : BitVec 32 := Scalar.remsi v26 c16_i32_14
  v27.toNat
def k0_dev3 (v0 : BitVec 32) : Nat :=
  let c3_i32 : BitVec 32 := 3#32
  let v28 : BitVec 32 := Scalar.addi v0 c3_i32
  let c16_i32_16 : BitVec 32 := 16#32
  let v29 : BitVec 32 := Scalar.remsi v28 c16_i32_16
  v29.toNat
def k0_dev4 (v0 : BitVec 32) : Nat :=
  let c4_i32 : BitVec 32 := 4#32
  let v30 : BitVec 32 := Scalar.addi v0 c4_i32
  let c16_i32_18 : BitVec 32 := 16#32
  let v31 : BitVec 32 := Scalar.remsi v30 c16_i32_18
  v31.toNat
def k0_dev5 (v0 : BitVec 32) : Nat :=
  let c5_i32 : BitVec 32 := 5#32
  let v32 : BitVec 32 := Scalar.addi v0 c5_i32
  let c16_i32_20 : BitVec 32 := 16#32
  let v33 : BitVec 32 := Scalar.remsi v32 c16_i32_20
  v33.toNat
def k0_dev6 (v0 : BitVec 32) : Nat :=
  let c6_i32 : BitVec 32 := 6#32
  let v34 : BitVec 32 := Scalar.addi v0 c6_i32
  let c16_i32_22 : BitVec 32 := 16#32
  let v35 : BitVec 32 := Scalar.remsi v34 c16_i32_22
  v35.toNat
def k0_dev7 (v0 : BitVec 32) : Nat :=
  let c7_i32 : BitVec 32 := 7#32
  let v36 : BitVec 32 := Scalar.addi v0 c7_i32
  let c16_i32_24 : BitVec 32 := 16#32
  let v37 : BitVec 32 := Scalar.remsi v36 c16_i32_24
  v37.toNat
def k0_dev8 (v0 : BitVec 32) : Nat :=
  let c8_i32 : BitVec 32 := 8#32
  let v38 : BitVec 32 := Scalar.addi v0 c8_i32
  let c16_i32_26 : BitVec 32 := 16#32
  let v39 : BitVec 32 := Scalar.remsi v38 c16_i32_26
  v39.toNat
def k0_dev9 (v0 : BitVec 32) : Nat :=
  let c9_i32 : BitVec 32 := 9#32
  let v40 : BitVec 32 := Scalar.addi v0 c9_i32
  let c16_i32_28 : BitVec 32 := 16#32
  let v41 : BitVec 32 := Scalar.remsi v40 c16_i32_28
  v41.toNat
def k0_dev10 (v0 : BitVec 32) : Nat :=
  let c10_i32 : BitVec 32 := 10#32
  let v42 : BitVec 32 := Scalar.addi v0 c10_i32
  let c16_i32_30 : BitVec 32 := 16#32
  let v43 : BitVec 32 := Scalar.remsi v42 c16_i32_30
  v43.toNat
def k0_dev11 (v0 : BitVec 32) : Nat :=
  let c11_i32 : BitVec 32 := 11#32
  let v44 : BitVec 32 := Scalar.addi v0 c11_i32
  let c16_i32_32 : BitVec 32 := 16#32
  let v45 : BitVec 32 := Scalar.remsi v44 c16_i32_32
  v45.toNat
def k0_dev12 (v0 : BitVec 32) : Nat :=
  let c12_i32 : BitVec 32 := 12#32
  let v46 : BitVec 32 := Scalar.addi v0 c12_i32
  let c16_i32_34 : BitVec 32 := 16#32
  let v47 : BitVec 32 := Scalar.remsi v46 c16_i32_34
  v47.toNat
def k0_dev13 (v0 : BitVec 32) : Nat :=
  let c13_i32 : BitVec 32 := 13#32
  let v48 : BitVec 32 := Scalar.addi v0 c13_i32
  let c16_i32_36 : BitVec 32 := 16#32
  let v49 : BitVec 32 := Scalar.remsi v48 c16_i32_36
  v49.toNat
def k0_dev14 (v0 : BitVec 32) : Nat :=
  let c14_i32 : BitVec 32 := 14#32
  let v50 : BitVec 32 := Scalar.addi v0 c14_i32
  let c16_i32_38 : BitVec 32 := 16#32
  let v51 : BitVec 32 := Scalar.remsi v50 c16_i32_38
  v51.toNat
def k0_dev15 (v0 : BitVec 32) : Nat :=
  let c15_i32_40 : BitVec 32 := 15#32
  let v52 : BitVec 32 := Scalar.addi v0 c15_i32_40
  let c16_i32_41 : BitVec 32 := 16#32
  let v53 : BitVec 32 := Scalar.remsi v52 c16_i32_41
  v53.toNat
def k0_cond3 (i : grid0.Coords) : BitVec 1 :=
  let arg0 : BitVec 32 := BitVec.ofNat 32 (i 0).val
  let c0_i32_7 : BitVec 32 := 0#32
  let v14 : BitVec 1 := Scalar.cmpi .eq arg0 c0_i32_7
  let v15 : BitVec 32 := Scalar.extui v14
  let c0_i32_8 : BitVec 32 := 0#32
  let v16 : BitVec 1 := Scalar.cmpi .ne v15 c0_i32_8
  v16

def k0_off1 (v0 : BitVec 32) : Fin 2 → Nat :=
  let c256_i32 : BitVec 32 := 256#32
  let v23 : BitVec 32 := Scalar.muli v0 c256_i32
  let v24 : Index := Scalar.indexCast v23
  let c0_12 : Index := 0#32
  ![v24.toNat, 0]
def k0_cond4 (i : grid0.Coords) : BitVec 1 :=
  let arg0 : BitVec 32 := BitVec.ofNat 32 (i 0).val
  let c0_i32_9 : BitVec 32 := 0#32
  let v17 : BitVec 1 := Scalar.cmpi .sgt arg0 c0_i32_9
  let v18 : BitVec 32 := Scalar.extui v17
  let c0_i32_10 : BitVec 32 := 0#32
  let v19 : BitVec 1 := Scalar.cmpi .ne v18 c0_i32_10
  v19

def k0_off2 (i : grid0.Coords) (v0 : BitVec 32) : Fin 2 → Nat :=
  let arg0 : BitVec 32 := BitVec.ofNat 32 (i 0).val
  let v1 : BitVec 32 := Scalar.addi v0 arg0
  let c16_i32 : BitVec 32 := 16#32
  let v2 : BitVec 32 := Scalar.remsi v1 c16_i32
  let c256_i32 : BitVec 32 := 256#32
  let v23 : BitVec 32 := Scalar.muli v2 c256_i32
  let v24 : Index := Scalar.indexCast v23
  let c0_12 : Index := 0#32
  ![v24.toNat, 0]
def k0_off3 (i : grid0.Coords) (v0 : BitVec 32) : Fin 1 → Nat :=
  let arg0 : BitVec 32 := BitVec.ofNat 32 (i 0).val
  let v1 : BitVec 32 := Scalar.addi v0 arg0
  let c16_i32 : BitVec 32 := 16#32
  let v2 : BitVec 32 := Scalar.remsi v1 c16_i32
  ![v2.toNat]
def k0_off4 (v0 : BitVec 32) : Fin 1 → Nat :=
  ![v0.toNat]
def k0_off5 (v0 : BitVec 32) : Fin 2 → Nat :=
  let c256_i32_14 : BitVec 32 := 256#32
  let v29 : BitVec 32 := Scalar.muli v0 c256_i32_14
  let c0_i32_15 : BitVec 32 := 0#32
  ![v29.toNat, 0]
def k0_off6 (i : grid0.Coords) (v0 : BitVec 32) : Fin 2 → Nat :=
  let arg0 : BitVec 32 := BitVec.ofNat 32 (i 0).val
  let v1 : BitVec 32 := Scalar.addi v0 arg0
  let c16_i32 : BitVec 32 := 16#32
  let v2 : BitVec 32 := Scalar.remsi v1 c16_i32
  let c256_i32_13 : BitVec 32 := 256#32
  let v28 : BitVec 32 := Scalar.muli v2 c256_i32_13
  let c0_i32_16 : BitVec 32 := 0#32
  ![v28.toNat, 0]
def k0_dev16 (i : grid0.Coords) (v0 : BitVec 32) : Nat :=
  let arg0 : BitVec 32 := BitVec.ofNat 32 (i 0).val
  let v1 : BitVec 32 := Scalar.addi v0 arg0
  let c16_i32 : BitVec 32 := 16#32
  let v2 : BitVec 32 := Scalar.remsi v1 c16_i32
  v2.toNat

def k0_chk1 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), (k0_dev4 v0) < nD) ∧
  (∀ (k0_h1 : k0_cond1 i = 1#1), (k0_dev5 v0) < nD) ∧
  (∀ (k0_h1 : k0_cond1 i = 1#1), (k0_dev6 v0) < nD) ∧
  (∀ (k0_h1 : k0_cond1 i = 1#1), (k0_dev7 v0) < nD) ∧
  (∀ (k0_h1 : k0_cond1 i = 1#1), (k0_dev8 v0) < nD) ∧
  (∀ (k0_h1 : k0_cond1 i = 1#1), (k0_dev9 v0) < nD) ∧
  (∀ (k0_h1 : k0_cond1 i = 1#1), (k0_dev10 v0) < nD) ∧
  (∀ (k0_h1 : k0_cond1 i = 1#1), (k0_dev11 v0) < nD) ∧
  (∀ (k0_h1 : k0_cond1 i = 1#1), (k0_dev12 v0) < nD) ∧
  (∀ (k0_h1 : k0_cond1 i = 1#1), (k0_dev13 v0) < nD) ∧
  (∀ (k0_h1 : k0_cond1 i = 1#1), (k0_dev14 v0) < nD) ∧
  (∀ (k0_h1 : k0_cond1 i = 1#1), (k0_dev15 v0) < nD) ∧
  (∀ (k0_h3 : k0_cond3 i = 1#1), ∀ a, (k0_off1 v0) a + S256x512.size a ≤ S4096x512.size a) ∧
  (∀ (k0_h3 : k0_cond3 i = 1#1), ∀ (hinb : ∀ a, (k0_off1 v0) a + S256x512.size a ≤ S4096x512.size a), (Rect.unit (s := S4096x512) (k0_off1 v0) S256x512.size hinb).PackedRows (EltTy.packing .bf16)) ∧
  (∀ (k0_h4 : k0_cond4 i = 1#1), ∀ a, (k0_off2 i v0) a + S256x512.size a ≤ S4096x512.size a) ∧
  (∀ (k0_h4 : k0_cond4 i = 1#1), ∀ (hinb : ∀ a, (k0_off2 i v0) a + S256x512.size a ≤ S4096x512.size a), (Rect.unit (s := S4096x512) (k0_off2 i v0) S256x512.size hinb).PackedRows (EltTy.packing .bf16)) ∧
  (∀ (k0_h4 : k0_cond4 i = 1#1), ∀ a, (k0_off3 i v0) a + S1.size a ≤ S16.size a) ∧
  (∀ (k0_h4 : k0_cond4 i = 1#1), ∀ a, (k0_off4 v0) a + S1.size a ≤ S16.size a) ∧
  (∀ (k0_h4 : k0_cond4 i = 1#1), ∀ a, (k0_off5 v0) a + S256x512.size a ≤ S4096x512.size a) ∧
  (∀ (k0_h4 : k0_cond4 i = 1#1), ∀ a, (k0_off6 i v0) a + S256x512.size a ≤ S4096x512.size a) ∧
  (∀ (k0_h4 : k0_cond4 i = 1#1), ∀ (hinb : ∀ a, (k0_off6 i v0) a + S256x512.size a ≤ S4096x512.size a), (Rect.unit (s := S4096x512) (k0_off6 i v0) S256x512.size hinb).WholeWords (EltTy.packing .bf16)) ∧
  (∀ (k0_h4 : k0_cond4 i = 1#1), ∀ (hinb : ∀ a, (k0_off5 v0) a + S256x512.size a ≤ S4096x512.size a), (Rect.unit (s := S4096x512) (k0_off5 v0) S256x512.size hinb).WholeWords (EltTy.packing .bf16)) ∧
  (∀ (k0_h4 : k0_cond4 i = 1#1), (k0_dev16 i v0) < nD)
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.1 k0_h1
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.2.2.2.2.2.1 k0_h1
theorem k0_dev7_lt : ∀ (i : grid0.Coords) (v0 : BitVec 32) (k0_hw1 : k0_chk1 i v0), ∀ (k0_h1 : k0_cond1 i = 1#1), (k0_dev7 v0) < nD := fun i v0 k0_hw1 k0_h1 => k0_hw1.2.2.2.2.2.2.1 k0_h1
theorem k0_dev8_lt : ∀ (i : grid0.Coords) (v0 : BitVec 32) (k0_hw1 : k0_chk1 i v0), ∀ (k0_h1 : k0_cond1 i = 1#1), (k0_dev8 v0) < nD := fun i v0 k0_hw1 k0_h1 => k0_hw1.2.2.2.2.2.2.2.1 k0_h1
theorem k0_dev9_lt : ∀ (i : grid0.Coords) (v0 : BitVec 32) (k0_hw1 : k0_chk1 i v0), ∀ (k0_h1 : k0_cond1 i = 1#1), (k0_dev9 v0) < nD := fun i v0 k0_hw1 k0_h1 => k0_hw1.2.2.2.2.2.2.2.2.1 k0_h1
theorem k0_dev10_lt : ∀ (i : grid0.Coords) (v0 : BitVec 32) (k0_hw1 : k0_chk1 i v0), ∀ (k0_h1 : k0_cond1 i = 1#1), (k0_dev10 v0) < nD := fun i v0 k0_hw1 k0_h1 => k0_hw1.2.2.2.2.2.2.2.2.2.1 k0_h1
theorem k0_dev11_lt : ∀ (i : grid0.Coords) (v0 : BitVec 32) (k0_hw1 : k0_chk1 i v0), ∀ (k0_h1 : k0_cond1 i = 1#1), (k0_dev11 v0) < nD := fun i v0 k0_hw1 k0_h1 => k0_hw1.2.2.2.2.2.2.2.2.2.2.1 k0_h1
theorem k0_dev12_lt : ∀ (i : grid0.Coords) (v0 : BitVec 32) (k0_hw1 : k0_chk1 i v0), ∀ (k0_h1 : k0_cond1 i = 1#1), (k0_dev12 v0) < nD := fun i v0 k0_hw1 k0_h1 => k0_hw1.2.2.2.2.2.2.2.2.2.2.2.1 k0_h1
theorem k0_dev13_lt : ∀ (i : grid0.Coords) (v0 : BitVec 32) (k0_hw1 : k0_chk1 i v0), ∀ (k0_h1 : k0_cond1 i = 1#1), (k0_dev13 v0) < nD := fun i v0 k0_hw1 k0_h1 => k0_hw1.2.2.2.2.2.2.2.2.2.2.2.2.1 k0_h1
theorem k0_dev14_lt : ∀ (i : grid0.Coords) (v0 : BitVec 32) (k0_hw1 : k0_chk1 i v0), ∀ (k0_h1 : k0_cond1 i = 1#1), (k0_dev14 v0) < nD := fun i v0 k0_hw1 k0_h1 => k0_hw1.2.2.2.2.2.2.2.2.2.2.2.2.2.1 k0_h1
theorem k0_dev15_lt : ∀ (i : grid0.Coords) (v0 : BitVec 32) (k0_hw1 : k0_chk1 i v0), ∀ (k0_h1 : k0_cond1 i = 1#1), (k0_dev15 v0) < nD := fun i v0 k0_hw1 k0_h1 => k0_hw1.2.2.2.2.2.2.2.2.2.2.2.2.2.2.1 k0_h1
theorem k0_off1_inb : ∀ (i : grid0.Coords) (v0 : BitVec 32) (k0_hw1 : k0_chk1 i v0), ∀ (k0_h3 : k0_cond3 i = 1#1), ∀ a, (k0_off1 v0) a + S256x512.size a ≤ S4096x512.size a := fun i v0 k0_hw1 k0_h3 => k0_hw1.2.2.2.2.2.2.2.2.2.2.2.2.2.2.2.1 k0_h3
theorem k0_off1_packedbf16 : ∀ (i : grid0.Coords) (v0 : BitVec 32) (k0_hw1 : k0_chk1 i v0), ∀ (k0_h3 : k0_cond3 i = 1#1), (Rect.unit (s := S4096x512) (k0_off1 v0) S256x512.size (k0_off1_inb i v0 k0_hw1 k0_h3)).PackedRows (EltTy.packing .bf16) := fun i v0 k0_hw1 k0_h3 => k0_hw1.2.2.2.2.2.2.2.2.2.2.2.2.2.2.2.2.1 k0_h3 (k0_off1_inb i v0 k0_hw1 k0_h3)
theorem k0_off2_inb : ∀ (i : grid0.Coords) (v0 : BitVec 32) (k0_hw1 : k0_chk1 i v0), ∀ (k0_h4 : k0_cond4 i = 1#1), ∀ a, (k0_off2 i v0) a + S256x512.size a ≤ S4096x512.size a := fun i v0 k0_hw1 k0_h4 => k0_hw1.2.2.2.2.2.2.2.2.2.2.2.2.2.2.2.2.2.1 k0_h4
theorem k0_off2_packedbf16 : ∀ (i : grid0.Coords) (v0 : BitVec 32) (k0_hw1 : k0_chk1 i v0), ∀ (k0_h4 : k0_cond4 i = 1#1), (Rect.unit (s := S4096x512) (k0_off2 i v0) S256x512.size (k0_off2_inb i v0 k0_hw1 k0_h4)).PackedRows (EltTy.packing .bf16) := fun i v0 k0_hw1 k0_h4 => k0_hw1.2.2.2.2.2.2.2.2.2.2.2.2.2.2.2.2.2.2.1 k0_h4 (k0_off2_inb i v0 k0_hw1 k0_h4)
theorem k0_off3_inb : ∀ (i : grid0.Coords) (v0 : BitVec 32) (k0_hw1 : k0_chk1 i v0), ∀ (k0_h4 : k0_cond4 i = 1#1), ∀ a, (k0_off3 i v0) a + S1.size a ≤ S16.size a := fun i v0 k0_hw1 k0_h4 => k0_hw1.2.2.2.2.2.2.2.2.2.2.2.2.2.2.2.2.2.2.2.1 k0_h4
theorem k0_off4_inb : ∀ (i : grid0.Coords) (v0 : BitVec 32) (k0_hw1 : k0_chk1 i v0), ∀ (k0_h4 : k0_cond4 i = 1#1), ∀ a, (k0_off4 v0) a + S1.size a ≤ S16.size a := fun i v0 k0_hw1 k0_h4 => k0_hw1.2.2.2.2.2.2.2.2.2.2.2.2.2.2.2.2.2.2.2.2.1 k0_h4
theorem k0_off5_inb : ∀ (i : grid0.Coords) (v0 : BitVec 32) (k0_hw1 : k0_chk1 i v0), ∀ (k0_h4 : k0_cond4 i = 1#1), ∀ a, (k0_off5 v0) a + S256x512.size a ≤ S4096x512.size a := fun i v0 k0_hw1 k0_h4 => k0_hw1.2.2.2.2.2.2.2.2.2.2.2.2.2.2.2.2.2.2.2.2.2.1 k0_h4
theorem k0_off6_inb : ∀ (i : grid0.Coords) (v0 : BitVec 32) (k0_hw1 : k0_chk1 i v0), ∀ (k0_h4 : k0_cond4 i = 1#1), ∀ a, (k0_off6 i v0) a + S256x512.size a ≤ S4096x512.size a := fun i v0 k0_hw1 k0_h4 => k0_hw1.2.2.2.2.2.2.2.2.2.2.2.2.2.2.2.2.2.2.2.2.2.2.1 k0_h4
theorem k0_off6_wordsbf16 : ∀ (i : grid0.Coords) (v0 : BitVec 32) (k0_hw1 : k0_chk1 i v0), ∀ (k0_h4 : k0_cond4 i = 1#1), (Rect.unit (s := S4096x512) (k0_off6 i v0) S256x512.size (k0_off6_inb i v0 k0_hw1 k0_h4)).WholeWords (EltTy.packing .bf16) := fun i v0 k0_hw1 k0_h4 => k0_hw1.2.2.2.2.2.2.2.2.2.2.2.2.2.2.2.2.2.2.2.2.2.2.2.1 k0_h4 (k0_off6_inb i v0 k0_hw1 k0_h4)
theorem k0_off5_wordsbf16 : ∀ (i : grid0.Coords) (v0 : BitVec 32) (k0_hw1 : k0_chk1 i v0), ∀ (k0_h4 : k0_cond4 i = 1#1), (Rect.unit (s := S4096x512) (k0_off5 v0) S256x512.size (k0_off5_inb i v0 k0_hw1 k0_h4)).WholeWords (EltTy.packing .bf16) := fun i v0 k0_hw1 k0_h4 => k0_hw1.2.2.2.2.2.2.2.2.2.2.2.2.2.2.2.2.2.2.2.2.2.2.2.2.1 k0_h4 (k0_off5_inb i v0 k0_hw1 k0_h4)
theorem k0_dev16_lt : ∀ (i : grid0.Coords) (v0 : BitVec 32) (k0_hw1 : k0_chk1 i v0), ∀ (k0_h4 : k0_cond4 i = 1#1), (k0_dev16 i v0) < nD := fun i v0 k0_hw1 k0_h4 => k0_hw1.2.2.2.2.2.2.2.2.2.2.2.2.2.2.2.2.2.2.2.2.2.2.2.2.2 k0_h4

def k0_cond5 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c16_i32 : BitVec 32 := 16#32
  let v2 : BitVec 32 := Scalar.remsi v1 c16_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Places.lean ====
/-
  Places: the devices of the ring of sixteen, the offsets and device numbers the kernel computes from its position word,
  and the sixteen row blocks of the two exchange buffers.

  Device `c` reads its position word `c` from the table and works at grid point `t` for the device `t` places ahead of it,
  `peer c t = (c + t) mod 16`. Row block `i` of a `4096 × 512` buffer is the rows `256 i … 256 i + 255`.
-/
module

public import proofs.«01_k».proof.Proof.Gen.KernelIdeal.Skeleton

@[expose] public section

noncomputable section

namespace Cert.KernelIdeal.Exchange

open Cert.KernelIdeal Cert.KernelIdeal.Gen
open Idealize.ShloMosaic

/-! ## Devices -/

/-- The device `k` places ahead of `c`. -/
def peer (c : Dev nD) (k : ℕ) : Dev nD := ⟨(c.val + k) % 16, Nat.mod_lt _ (by decide)⟩

/-- How many places ahead of `c` device `j` is. -/
def dist (c j : Dev nD) : ℕ := (j.val + 16 - c.val) % 16

theorem dist_lt (c j : Dev nD) : dist c j < 16 := Nat.mod_lt _ (by decide)
theorem dist_self (c : Dev nD) : dist c c = 0 := by revert c; decide
theorem dist_pos {c j : Dev nD} (h : j ≠ c) : 0 < dist c j := by revert c j; decide
theorem dist_peer (c : Dev nD) {k : ℕ} (hk : k < 16) : dist c (peer c k) = k := by
  have hc : c.val < 16 := c.isLt
  simp only [dist, peer]; omega
theorem peer_dist (c j : Dev nD) : peer c (dist c j) = j := by revert c j; decide
theorem peer_ne (c : Dev nD) {k : ℕ} (h0 : 0 < k) (hk : k < 16) : peer c k ≠ c := fun h => by
  have := dist_peer c hk; rw [h, dist_self] at this; omega
theorem eq_peer_of_dist {c j : Dev nD} {k : ℕ} (h : dist c j = k) : j = peer c k := by rw [← h, peer_dist]

/-- The position word of device `c`. -/
abbrev word (c : Dev nD) : BitVec 32 := BitVec.ofNat 32 c.val

/-! ## Grid points -/

/-- The grid's coordinates at point `t`. -/
abbrev pnt (t : Fin 16) : grid0.Coords := grid0.coords t

theorem pnt_zero (t : Fin 16) : (pnt t 0).val = t.val := by revert t; decide

theorem cond1_iff (t : Fin 16) : k0_cond1 (pnt t) = 1#1 ↔ t.val = 0 := by revert t; decide
theorem cond2_iff (t : Fin 16) : Scalar.cmpi .ne (Scalar.extui (Scalar.cmpi .eq (BitVec.ofNat 32 (pnt t 0).val) 0#32) : BitVec 32) 0#32 = 1#1 ↔ t.val = 0 := by
  revert t; decide
theorem cond3_iff (t : Fin 16) : k0_cond3 (pnt t) = 1#1 ↔ t.val = 0 := by revert t; decide
theorem cond4_iff (t : Fin 16) : k0_cond4 (pnt t) = 1#1 ↔ t.val ≠ 0 := by revert t; decide
theorem cond5_iff (t : Fin 16) : k0_cond5 (pnt t) = 1#1 ↔ t.val = 15 := by revert t; decide

/-- The test before the waits of index `i`: the position word is not `i`. -/
theorem skip_iff (c i : Dev nD) : Scalar.cmpi .ne (Scalar.extui (Scalar.cmpi .ne (word c) (BitVec.ofNat 32 i.val)) : BitVec 32) 0#32 = 1#1 ↔ c ≠ i := by
  revert c i; decide

/-! ## The devices and offsets the kernel computes -/

theorem dev1_eq (c : Dev nD) : k0_dev1 (word c) = (peer c 1).val := by revert c; decide
theorem dev2_eq (c : Dev nD) : k0_dev2 (word c) = (peer c 2).val := by revert c; decide
theorem dev3_eq (c : Dev nD) : k0_dev3 (word c) = (peer c 3).val := by revert c; decide
theorem dev4_eq (c : Dev nD) : k0_dev4 (word c) = (peer c 4).val := by revert c; decide
theorem dev5_eq (c : Dev nD) : k0_dev5 (word c) = (peer c 5).val := by revert c; decide
theorem dev6_eq (c : Dev nD) : k0_dev6 (word c) = (peer c 6).val := by revert c; decide
theorem dev7_eq (c : Dev nD) : k0_dev7 (word c) = (peer c 7).val := by revert c; decide
theorem dev8_eq (c : Dev nD) : k0_dev8 (word c) = (peer c 8).val := by revert c; decide
theorem dev9_eq (c : Dev nD) : k0_dev9 (word c) = (peer c 9).val := by revert c; decide
theorem dev10_eq (c : Dev nD) : k0_dev10 (word c) = (peer c 10).val := by revert c; decide
theorem dev11_eq (c : Dev nD) : k0_dev11 (word c) = (peer c 11).val := by revert c; decide
theorem dev12_eq (c : Dev nD) : k0_dev12 (word c) = (peer c 12).val := by revert c; decide
theorem dev13_eq (c : Dev nD) : k0_dev13 (word c) = (peer c 13).val := by revert c; decide
theorem dev14_eq (c : Dev nD) : k0_dev14 (word c) = (peer c 14).val := by revert c; decide
theorem dev15_eq (c : Dev nD) : k0_dev15 (word c) = (peer c 15).val := by revert c; decide
theorem dev16_eq (c : Dev nD) (t : Fin 16) : k0_dev16 (pnt t) (word c) = (peer c t.val).val := by revert c t; decide

theorem off1_eq (c : Dev nD) : k0_off1 (word c) = ![256 * c.val, 0] := by revert c; decide
theorem off2_eq (c : Dev nD) (t : Fin 16) : k0_off2 (pnt t) (word c) = ![256 * (peer c t.val).val, 0] := by revert c t; decide
theorem off3_eq (c : Dev nD) (t : Fin 16) : k0_off3 (pnt t) (word c) = ![(peer c t.val).val] := by revert c t; decide
theorem off4_eq (c : Dev nD) : k0_off4 (word c) = ![c.val] := by revert c; decide
theorem off5_eq (c : Dev nD) : k0_off5 (word c) = ![256 * c.val, 0] := by revert c; decide
theorem off6_eq (c : Dev nD) (t : Fin 16) : k0_off6 (pnt t) (word c) = ![256 * (peer c t.val).val, 0] := by revert c t; decide

theorem inb (i : Fin 16) : ∀ a, (![256 * i.val, 0] : Fin 2 → ℕ) a + S256x512.size a ≤ S4096x512.size a := by revert i; decide

/-- Row block `i`. -/
abbrev rect (i : Fin 16) : Rect S4096x512 := Rect.unit (s := S4096x512) ![256 * i.val, 0] S256x512.size (inb i)

theorem packed (i : Fin 16) : (rect i).PackedRows (EltTy.packing .bf16) := by revert i; decide

/-- Every fact the kernel assumes of its position word holds of device `c`'s. -/
theorem chk (c : Dev nD) (t : Fin 16) : k0_chk1 (pnt t) (word c) := by
  have hp : ∀ off : Fin 2 → ℕ, ∀ i : Fin 16, off = ![256 * i.val, 0] → ∀ h : ∀ a, off a + S256x512.size a ≤ S4096x512.size a,
      (Rect.unit (s := S4096x512) off S256x512.size h).PackedRows (EltTy.packing .bf16) := by
    intro off i e h; subst e; exact packed i
  have hi : ∀ off : Fin 2 → ℕ, ∀ i : Fin 16, off = ![256 * i.val, 0] → ∀ a, off a + S256x512.size a ≤ S4096x512.size a := by
    intro off i e; subst e; exact inb i
  have hs : ∀ off : Fin 1 → ℕ, ∀ i : Fin 16, off = ![i.val] → ∀ a, off a + S1.size a ≤ S16.size a := by
    intro off i e; subst e; revert i; decide
  refine ⟨fun _ => ?_, fun _ => ?_, fun _ => ?_, fun _ => ?_, fun _ => ?_, fun _ => ?_, fun _ => ?_, fun _ => ?_, fun _ => ?_, fun _ => ?_,
    fun _ => ?_, fun _ => ?_, fun _ => ?_, fun _ => ?_, fun _ => ?_, fun _ => hi _ c (off1_eq c), fun _ => hp _ c (off1_eq c),
    fun _ => hi _ _ (off2_eq c t), fun _ => hp _ _ (off2_eq c t), fun _ => hs _ _ (off3_eq c t), fun _ => hs _ c (off4_eq c),
    fun _ => hi _ c (off5_eq c), fun _ => hi _ _ (off6_eq c t), fun _ h => .inl (hp _ _ (off6_eq c t) h), fun _ h => .inl (hp _ c (off5_eq c) h),
    fun _ => ?_⟩
  · rw [dev1_eq]; exact (peer c 1).isLt
  · rw [dev2_eq]; exact (peer c 2).isLt
  · rw [dev3_eq]; exact (peer c 3).isLt
  · rw [dev4_eq]; exact (peer c 4).isLt
  · rw [dev5_eq]; exact (peer c 5).isLt
  · rw [dev6_eq]; exact (peer c 6).isLt
  · rw [dev7_eq]; exact (peer c 7).isLt
  · rw [dev8_eq]; exact (peer c 8).isLt
  · rw [dev9_eq]; exact (peer c 9).isLt
  · rw [dev10_eq]; exact (peer c 10).isLt
  · rw [dev11_eq]; exact (peer c 11).isLt
  · rw [dev12_eq]; exact (peer c 12).isLt
  · rw [dev13_eq]; exact (peer c 13).isLt
  · rw [dev14_eq]; exact (peer c 14).isLt
  · rw [dev15_eq]; exact (peer c 15).isLt
  · rw [dev16_eq]; exact (peer c t.val).isLt

/-! ## Row blocks -/

/-- The elements of row block `i`. -/
abbrev rows (i : Fin 16) : Finset S4096x512.Idx := (rect i).set

/-- The row block an element lies in. -/
def blockOf (x : S4096x512.Idx) : Fin 16 := ⟨(x 0).val / 256, by have : (x 0).val < 4096 := (x 0).isLt; omega⟩

/-- Its place within that block. -/
def within (x : S4096x512.Idx) : S256x512.Idx :=
  Fin.cons (⟨(x 0).val % 256, Nat.mod_lt _ (by decide)⟩ : Fin 256) (Fin.cons (⟨(x 1).val, (x 1).isLt⟩ : Fin 512) finZeroElim)

theorem emb_zero (i : Fin 16) (y : S256x512.Idx) : ((rect i).emb y 0).val = 256 * i.val + (y 0).val := by
  show 256 * i.val + 1 * (y 0).val = _; rw [one_mul]
theorem emb_one (i : Fin 16) (y : S256x512.Idx) : ((rect i).emb y 1).val = (y 1).val := by
  show 0 + 1 * (y 1).val = _; omega

theorem blockOf_emb (i : Fin 16) (y : S256x512.Idx) : blockOf ((rect i).emb y) = i := by
  have h : (y 0).val < 256 := (y 0).isLt
  apply Fin.ext; show ((rect i).emb y 0).val / 256 = i.val; rw [emb_zero]; omega
theorem within_emb (i : Fin 16) (y : S256x512.Idx) : within ((rect i).emb y) = y := by
  have h : (y 0).val < 256 := (y 0).isLt
  funext a
  match a with
  | 0 => apply Fin.ext; show ((rect i).emb y 0).val % 256 = _; rw [emb_zero]; omega
  | 1 => apply Fin.ext; show ((rect i).emb y 1).val = _; rw [emb_one]
theorem emb_within (x : S4096x512.Idx) : (rect (blockOf x)).emb (within x) = x := by
  funext a
  match a with
  | 0 => apply Fin.ext; show ((rect (blockOf x)).emb (within x) 0).val = _; rw [emb_zero]; show 256 * ((x 0).val / 256) + (x 0).val % 256 = _; omega
  | 1 => apply Fin.ext; show ((rect (blockOf x)).emb (within x) 1).val = _; rw [emb_one]; rfl

theorem mem_rows {i : Fin 16} {x : S4096x512.Idx} : x ∈ rows i ↔ blockOf x = i := by
  rw [rows, ← Rect.map_emb_univ, Finset.mem_map]
  constructor
  · rintro ⟨y, -, rfl⟩; exact blockOf_emb i y
  · rintro rfl; exact ⟨within x, Finset.mem_univ _, emb_within x⟩

theorem rows_disjoint {i j : Fin 16} (h : i ≠ j) : Disjoint (rows i) (rows j) :=
  Finset.disjoint_left.mpr fun x hi hj => h ((mem_rows.mp hi).symm.trans (mem_rows.mp hj))

theorem rows_cover : (Finset.univ : Finset (Fin 16)).biUnion rows = Finset.univ := by
  ext x; simp only [Finset.mem_biUnion, Finset.mem_univ, true_and, iff_true]; exact ⟨blockOf x, mem_rows.mpr rfl⟩

/-- Sixteen blocks stacked: row block `i` is `g i`. -/
def stack {α : Type} (g : Fin 16 → S256x512.Idx → α) : S4096x512.Idx → α := fun x => g (blockOf x) (within x)

theorem stack_emb {α : Type} (g : Fin 16 → S256x512.Idx → α) (i : Fin 16) (y : S256x512.Idx) : stack g ((rect i).emb y) = g i y := by
  rw [stack, blockOf_emb, within_emb]

/-- The stack with its first `n` blocks in place, the rest of the buffer as `f`. -/
def fill {α : Type} (g : Fin 16 → S256x512.Idx → α) (f : S4096x512.Idx → α) (n : ℕ) : S4096x512.Idx → α :=
  fun x => if (blockOf x).val < n then stack g x else f x

theorem fill_zero {α : Type} (g : Fin 16 → S256x512.Idx → α) (f : S4096x512.Idx → α) : fill g f 0 = f := funext fun x => if_neg (Nat.not_lt_zero _)
theorem fill_full {α : Type} (g : Fin 16 → S256x512.Idx → α) (f : S4096x512.Idx → α) : fill g f 16 = stack g := funext fun x => if_pos (blockOf x).isLt

end Cert.KernelIdeal.Exchange
-- ==== Proof.Protocol.lean ====
/-
  Protocol: who signals and who copies what to whom in the exchange, and the contents handed over.

  Cells of device `c`:
  * its barrier semaphore: every other device pays one unit, once, and hands over row block `c` of its own receive buffer
    (at whatever it holds) together with the fact that its receive cell `c` is open;
  * send semaphore `j` (for `j ≠ c`): the copy of row block `j` of `c`'s send buffer to device `j` pays it, and hands that row
    block back;
  * receive semaphore `i` (for `i ≠ c`): the copy of device `i` pays it, and hands over row block `i` of `c`'s receive buffer,
    holding device `i`'s rows times `c`'s columns.
  The cells of a device's own index are paid by nobody. All cells have one round.
-/
module

public import proofs.«01_k».proof.Proof.Places
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and the exchange's with a duty per paying device -/

abbrev URx : Type := URounds (GSem nD τ sig) (Dev nD)
abbrev UU : Type := UR sig nD τ × URx

local notation "𝕄" => MT nD τ sig Unit (Elt F) ℕ UU ℕ

abbrev EP : Emb (UR sig nD τ) (MT nD τ sig Unit (Elt F) ℕ UU ℕ) := embL
abbrev ER : Emb URx (MT nD τ sig Unit (Elt F) ℕ UU ℕ) := embR

/-! ## Buffers and cells -/

abbrev tblM : Memref sig .tc .smem S1 .i32 := Memref.whole main_v5
abbrev xbM : Memref sig .tc .vmem S256x4096 .bf16 := Memref.whole cc0_scratch0
abbrev sndM : Memref sig .tc .vmem S4096x512 .bf16 := Memref.whole cc0_scratch1
abbrev rcvM : Memref sig .tc .vmem S4096x512 .bf16 := Memref.whole cc0_scratch2

/-- Row block `i` of the send buffer and of the receive buffer. -/
abbrev sndV (i : Fin 16) : Memref sig .tc .vmem S256x512 .bf16 := sndM.slice (rect i) (fun _ => rfl)
abbrev rcvV (i : Fin 16) : Memref sig .tc .vmem S256x512 .bf16 := rcvM.slice (rect i) (fun _ => rfl)

abbrev barS : Sem sig := sig.barrier 0 rfl
def sendSem (i : Fin 16) : DmaSem sig := ⟨4 + i.val, by have := i.isLt; show 4 + i.val < 36; omega⟩
def recvSem (i : Fin 16) : DmaSem sig := ⟨20 + i.val, by have := i.isLt; show 20 + i.val < 36; omega⟩

abbrev barCell (c : Dev nD) : GSem nD τ sig := ((c : Thread nD τ), .reg barS)
abbrev sendCell (c : Dev nD) (i : Fin 16) : GSem nD τ sig := ((c : Thread nD τ), .dma (sendSem i))
abbrev recvCell (c : Dev nD) (i : Fin 16) : GSem nD τ sig := ((c : Thread nD τ), .dma (recvSem i))

/-- What a copy of one row block pays. -/
def N : ℕ := (rcvV 0).view.dmaCredit
theorem N_pos : 0 < N := View.dmaCredit_pos _ (by decide)
theorem N_rcv (i : Fin 16) : (rcvV i).view.dmaCredit = N := rfl
theorem N_snd (i : Fin 16) : (sndV i).view.dmaCredit = N := rfl

/-- The index a DMA cell of the exchange is for. -/
def slotIx (s : DmaSem sig) : Fin 16 := ⟨(s.val + 12) % 16, Nat.mod_lt _ (by decide)⟩
theorem slotIx_send (i : Fin 16) : slotIx (sendSem i) = i := by revert i; decide
theorem slotIx_recv (i : Fin 16) : slotIx (recvSem i) = i := by revert i; decide

theorem rcvV_set (i : Fin 16) : (rcvV i).view.set = rows i := View.set_slice_whole _ _
theorem sndV_set (i : Fin 16) : (sndV i).view.set = rows i := View.set_slice_whole _ _

/-! ## Contents -/

variable (m : (ℓ : Loc nD τ sig) → Buf (Elt F) ℓ)

/-- Device `c`'s rows of `x`. -/
def Xb (c : Dev nD) : Vec F S256x4096 .bf16 := m ((c : Thread nD τ).loc main_arg0)

/-- The columns of `w` that device `j` keeps, as device `c` holds them. -/
def Wb (c j : Dev nD) : Vec F S4096x512 .bf16 := fun y =>
  m ((c : Thread nD τ).loc main_arg1) (Fin.cons (⟨(y 0).val, (y 0).isLt⟩ : Fin 4096) (Fin.cons
    (⟨512 * j.val + (y 1).val, by have hj : j.val < 16 := j.isLt; have h : (y 1).val < 512 := (y 1).isLt; omega⟩ : Fin 8192) finZeroElim))

/-- Device `c`'s rows times device `j`'s columns, rounded. -/
def Yb (c j : Dev nD) : Vec F S256x512 .bf16 := k0_pay3 (Xb m c) (Wb m c j)

/-- What device `c`'s receive buffer holds at the end. -/
def Rv (c : Dev nD) : Vec F S4096x512 .bf16 := stack fun i => Yb m i c

/-- Device `c`'s result. -/
def Ov (c : Dev nD) : Vec F S4096x512 .f32 := stack fun i => k0_pay7 (Yb m i c)

/-- Row block `i` of device `c`'s send / receive buffer, at `f`. -/
def sndRow (c : Dev nD) (i : Fin 16) (f : Buf (Elt F) ((c : Thread nD τ).loc cc0_scratch1)) : sProp 𝕄 :=
  ((c : Thread nD τ).loc cc0_scratch1) ↦[rows i]{fullShare} f
def rcvRow (c : Dev nD) (i : Fin 16) (f : Buf (Elt F) ((c : Thread nD τ).loc cc0_scratch2)) : sProp 𝕄 :=
  ((c : Thread nD τ).loc cc0_scratch2) ↦[rows i]{fullShare} f
def sndAny (c : Dev nD) (i : Fin 16) : sProp 𝕄 := iprop(∃ f, sndRow (F := F) c i f)
def rcvAny (c : Dev nD) (i : Fin 16) : sProp 𝕄 := iprop(∃ f, rcvRow (F := F) c i f)

instance sndRow_storable (c : Dev nD) (i) (f) : BI.Storable (upEmb : UEmb _ 𝕄) (sndRow (F := F) c i f) := by unfold sndRow; infer_instance
instance rcvRow_storable (c : Dev nD) (i) (f) : BI.Storable (upEmb : UEmb _ 𝕄) (rcvRow (F := F) c i f) := by unfold rcvRow; infer_instance
instance sndAny_storable (c : Dev nD) (i) : BI.Storable (upEmb : UEmb _ 𝕄) (sndAny (F := F) c i) := by unfold sndAny; infer_instance
instance rcvAny_storable (c : Dev nD) (i) : BI.Storable (upEmb : UEmb _ 𝕄) (rcvAny (F := F) c i) := by unfold rcvAny; infer_instance

/-- Row block `j` of device `i`'s send buffer, holding its rows times `j`'s columns, lands in row block `i` of device `j`. -/
theorem landed (i j : Dev nD) (fs : Buf (Elt F) ((i : Thread nD τ).loc cc0_scratch1)) (fd : Buf (Elt F) ((j : Thread nD τ).loc cc0_scratch2))
    (hs : (sndV j).view.read (Elt F) fs = Yb m i j) :
    ((rcvV i).view.loc (j : Thread nD τ) ↦[(rcvV i).view.set]{fullShare} ((rcvV i).view.write (Elt F) fd ((sndV j).view.read (Elt F) fs) Finset.univ) : sProp 𝕄)
      = rcvRow j i (Rv m j) := by
  unfold rcvRow
  rw [rcvV_set, hs]
  refine pointsTo_congr fun x hx => ?_
  have hx' : x ∈ (rcvV i).view.set := by rw [rcvV_set]; exact hx
  have hi := mem_rows.mp hx
  have e : x = (rcvV i).view.emb (within x) := by
    show x = (rect i).emb (within x); rw [← hi, emb_within]
  conv_lhs => rw [e]
  rw [View.write_emb_of_mem _ _ (Finset.mem_univ _)]
  show Yb m i j (within x) = stack (fun i => Yb m i j) x
  unfold stack; rw [hi]

/-! ## The schedule -/

/-- Paid to device `c`'s barrier cell by device `e`. -/
def barPay (c e : Dev nD) : sProp 𝕄 := iprop(rcvAny (F := F) e c ∗ reached ER (recvCell e c) 0)

instance barPay_storable (c e : Dev nD) : BI.Storable (upEmb : UEmb _ 𝕄) (barPay (F := F) c e) := by unfold barPay; infer_instance

/-- The payload of a DMA cell. -/
def dmaPay (c : Dev nD) (s : DmaSem sig) : sProp 𝕄 := if s.val < 20 then sndAny c (slotIx s) else rcvRow c (slotIx s) (Rv m c)

instance dmaPay_storable (c : Dev nD) (s : DmaSem sig) : BI.Storable (upEmb : UEmb _ 𝕄) (dmaPay m c s) := by unfold dmaPay; split <;> infer_instance

/-- The payers of a DMA cell. -/
def dmaPayers (c : Dev nD) (s : DmaSem sig) : Finset (Dev nD) :=
  if s.val < 4 then ∅ else if slotIx s = c then ∅ else if s.val < 20 then {c} else {slotIx s}

def Rd : Rounds.Schedule (GSem nD τ sig) (Dev nD) 𝕄 where
  duties g r := if r = 0 then (match g.2 with | .reg _ => Finset.univ.erase g.1.1 | .dma s => dmaPayers g.1.1 s) else ∅
  unitless _ := False
  amount g _ _ := match g.2 with | .reg _ => 1 | .dma _ => N
  payload g _ e := match g.2 with | .reg _ => barPay g.1.1 e | .dma s => dmaPay m g.1.1 s
  amount_pos g _ _ _ := by
    obtain ⟨t, s⟩ := g
    cases s
    · exact Nat.one_pos
    · exact N_pos

instance Rd_storable (g : GSem nD τ sig) (r : ℕ) (d : Dev nD) : BI.Storable (upEmb : UEmb _ 𝕄) ((Rd m).payload g r d) := by
  obtain ⟨t, s⟩ := g
  cases s
  · show BI.Storable (upEmb : UEmb _ 𝕄) (barPay t.1 d); infer_instance
  · show BI.Storable (upEmb : UEmb _ 𝕄) (dmaPay m t.1 _); infer_instance

theorem duties_later (g : GSem nD τ sig) : ∀ r, 1 ≤ r → (Rd m).duties g r = ∅ := fun r hr => if_neg (by omega)

theorem duties_bar (c : Dev nD) : (Rd m).duties (barCell c) 0 = Finset.univ.erase c := rfl
theorem payers_send {c j : Dev nD} (h : j ≠ c) : dmaPayers c (sendSem j) = {c} := by revert c j; decide
theorem payers_recv {c i : Dev nD} (h : i ≠ c) : dmaPayers c (recvSem i) = {i} := by revert c i; decide
theorem payers_send_self (c : Dev nD) : dmaPayers c (sendSem c) = ∅ := by revert c; decide
theorem payers_recv_self (c : Dev nD) : dmaPayers c (recvSem c) = ∅ := by revert c; decide
theorem duties_send {c j : Dev nD} (h : j ≠ c) : (Rd m).duties (sendCell c j) 0 = {c} := payers_send h
theorem duties_recv {c i : Dev nD} (h : i ≠ c) : (Rd m).duties (recvCell c i) 0 = {i} := payers_recv h
theorem duties_send_self (c : Dev nD) : ∀ r, 0 ≤ r → (Rd m).duties (sendCell c c) r = ∅ := fun r _ => by
  by_cases h : r = 0
  · subst h; exact payers_send_self c
  · exact if_neg h
theorem duties_recv_self (c : Dev nD) : ∀ r, 0 ≤ r → (Rd m).duties (recvCell c c) r = ∅ := fun r _ => by
  by_cases h : r = 0
  · subst h; exact payers_recv_self c
  · exact if_neg h

theorem amount_bar (c e : Dev nD) : (Rd m).amount (barCell c) 0 e = 1 := rfl
theorem amount_send (c j e : Dev nD) : (Rd m).amount (sendCell c j) 0 e = N := rfl
theorem amount_recv (c j e : Dev nD) : (Rd m).amount (recvCell c j) 0 e = N := rfl

theorem expect_bar (c : Dev nD) : (Rd m).expect (barCell c) 0 = 15 := by
  unfold Schedule.expect Schedule.amountOf; rw [duties_bar]
  rw [Finset.sum_congr rfl fun e _ => amount_bar m c e, Finset.sum_const, Finset.card_erase_of_mem (Finset.mem_univ _)]; rfl
theorem expect_send {c j : Dev nD} (h : j ≠ c) : (Rd m).expect (sendCell c j) 0 = N := by
  unfold Schedule.expect Schedule.amountOf; rw [duties_send m h, Finset.sum_singleton, amount_send]
theorem expect_recv {c i : Dev nD} (h : i ≠ c) : (Rd m).expect (recvCell c i) 0 = N := by
  unfold Schedule.expect Schedule.amountOf; rw [duties_recv m h, Finset.sum_singleton, amount_recv]

theorem payload_bar (c e : Dev nD) : (Rd m).payload (barCell c) 0 e = barPay c e := rfl
theorem payload_send (c j e : Dev nD) : (Rd m).payload (sendCell c j) 0 e = sndAny c j := by
  show dmaPay m c (sendSem j) = _
  unfold dmaPay; rw [if_pos (show (sendSem j).val < 20 by revert j; decide), slotIx_send]
theorem payload_recv (c i e : Dev nD) : (Rd m).payload (recvCell c i) 0 e = rcvRow c i (Rv m c) := by
  show dmaPay m c (recvSem i) = _
  unfold dmaPay; rw [if_neg (show ¬ (recvSem i).val < 20 by revert i; decide), slotIx_recv]

theorem rest_bar (c : Dev nD) : bigSep ((Rd m).duties (barCell c) 0 \ ∅) (fun u => (Rd m).payload (barCell c) 0 u)
    = bigSep (Finset.univ.erase c) fun e => barPay (F := F) c e := by rw [Finset.sdiff_empty, duties_bar]; rfl
theorem rest_send {c j : Dev nD} (h : j ≠ c) : bigSep ((Rd m).duties (sendCell c j) 0 \ ∅) (fun u => (Rd m).payload (sendCell c j) 0 u) = sndAny c j := by
  rw [Finset.sdiff_empty, duties_send m h, bigSep_singleton, payload_send]
theorem rest_recv {c i : Dev nD} (h : i ≠ c) : bigSep ((Rd m).duties (recvCell c i) 0 \ ∅) (fun u => (Rd m).payload (recvCell c i) 0 u) = rcvRow c i (Rv m c) := by
  rw [Finset.sdiff_empty, duties_recv m h, bigSep_singleton, payload_recv]

/-! ## What a device owes -/

/-- The last `n` of the fifteen copies: to the devices `16 - n … 15` places ahead. -/
def dueR (c : Dev nD) : ℕ → CellTallies nD τ sig Unit
  | 0 => 0
  | n + 1 => dueR c n + tallyAt (recvCell (peer c (15 - n)) c) () N
/-- The last `n` of the fifteen signals. -/
def dueB (c : Dev nD) : ℕ → CellTallies nD τ sig Unit
  | 0 => 0
  | n + 1 => dueB c n + tallyAt (barCell (peer c (15 - n))) () 1

/-- Owed at launch: every signal and every copy. -/
def O₀ (c : Dev nD) : CellTallies nD τ sig Unit := dueR c 15 + dueB c 15

/-- Owed before grid point `t`. -/
def owedAt (c : Dev nD) (t : ℕ) : CellTallies nD τ sig Unit := if t = 0 then O₀ c else dueR c (16 - t)

theorem dueR_pos {c : Dev nD} {n : ℕ} {g : GSem nD τ sig} {u : Unit} (h : 0 < dueR c n g u) : ∃ j i, g = recvCell j i := by
  induction n with
  | zero => exact absurd h (Nat.lt_irrefl 0)
  | succ n ih =>
    rw [dueR] at h
    by_cases h' : 0 < dueR c n g u
    · exact ih h'
    · have h2 : 0 < (tallyAt (recvCell (peer c (15 - n)) c) () N : CellTallies nD τ sig Unit) g u := by
        have : (dueR c n + tallyAt (recvCell (peer c (15 - n)) c) () N) g u = dueR c n g u + tallyAt (recvCell (peer c (15 - n)) c) () N g u := rfl
        omega
      rw [tallyAt_apply] at h2
      by_cases h3 : g = recvCell (peer c (15 - n)) c ∧ u = ()
      · exact ⟨_, _, h3.1⟩
      · rw [if_neg h3] at h2; exact absurd h2 (Nat.lt_irrefl 0)

theorem dueB_pos {c : Dev nD} {n : ℕ} {g : GSem nD τ sig} {u : Unit} (h : 0 < dueB c n g u) : ∃ j, g = barCell j := by
  induction n with
  | zero => exact absurd h (Nat.lt_irrefl 0)
  | succ n ih =>
    rw [dueB] at h
    by_cases h' : 0 < dueB c n g u
    · exact ih h'
    · have h2 : 0 < (tallyAt (barCell (peer c (15 - n))) () 1 : CellTallies nD τ sig Unit) g u := by
        have : (dueB c n + tallyAt (barCell (peer c (15 - n))) () 1) g u = dueB c n g u + tallyAt (barCell (peer c (15 - n))) () 1 g u := rfl
        omega
      rw [tallyAt_apply] at h2
      by_cases h3 : g = barCell (peer c (15 - n)) ∧ u = ()
      · exact ⟨_, h3.1⟩
      · rw [if_neg h3] at h2; exact absurd h2 (Nat.lt_irrefl 0)

/-! ## Levels: staging cells 0, barrier cells 1, receive cells 2 -/

def L (g : GSem nD τ sig) : Finset Unit := if g.1.2 = .tc then {()} else ∅
def lv (g : GSem nD τ sig) (_ : Unit) : ℕ := match g.2 with | .reg _ => 1 | .dma s => if s.val < 20 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c i : Dev nD) : lv (recvCell c i) () = 2 := if_neg (show ¬ (recvSem i).val < 20 by revert i; decide)

theorem mayWait_bar (c : Dev nD) : (levAts L lv : sProp 𝕄) ⊢ MayWait (c : Thread nD τ) (.reg barS) () (dueR c 15) :=
  MayOwe.of_cut (L := L) (lev := lv) 1 (fun p hp => by rw [Finset.mem_singleton.mp hp, L_tc]; exact Finset.mem_singleton_self _)
    (fun g u hg => by obtain ⟨j, i, rfl⟩ := dueR_pos hg; rw [L_tc]; exact Finset.mem_singleton_self _)
    (fun p hp => by rw [Finset.mem_singleton.mp hp]; exact Nat.le_refl 1)
    (fun g u hg => by obtain ⟨j, i, rfl⟩ := dueR_pos hg; rw [lv_recv]; decide)

theorem owedAt_pos {c : Dev nD} {t : ℕ} {g : GSem nD τ sig} {u : Unit} (h : 0 < owedAt c t g u) : u ∈ L g ∧ 0 < lv g u := by
  have hR : ∀ n, 0 < dueR c n g u → u ∈ L g ∧ 0 < lv g u := fun n h => by
    obtain ⟨j, i, rfl⟩ := dueR_pos h; exact ⟨by rw [L_tc]; exact Finset.mem_singleton_self _, by rw [lv_recv]; decide⟩
  have hB : ∀ n, 0 < dueB c n g u → u ∈ L g ∧ 0 < lv g u := fun n h => by
    obtain ⟨j, rfl⟩ := dueB_pos h; exact ⟨by rw [L_tc]; exact Finset.mem_singleton_self _, Nat.one_pos⟩
  unfold owedAt at h
  split at h
  · have e : O₀ c g u = dueR c 15 g u + dueB c 15 g u := rfl
    by_cases h' : 0 < dueR c 15 g u
    · exact hR _ h'
    · exact hB 15 (by omega)
  · exact hR _ h

/-- A wait on a cell of level 0 is allowed whatever the exchange still owes. -/
theorem mayWait_stage (c : Dev nD) (t : ℕ) (sm : SemLoc sig) (h : lv ((c : Thread nD τ), sm) () = 0) :
    (levAts L lv : sProp 𝕄) ⊢ MayWait (c : Thread nD τ) sm () (owedAt c t) :=
  MayOwe.of_cut (L := L) (lev := lv) 0 (fun p hp => by rw [Finset.mem_singleton.mp hp, L_tc]; exact Finset.mem_singleton_self _)
    (fun g u hg => (owedAt_pos hg).1)
    (fun p hp => by rw [Finset.mem_singleton.mp hp]; exact h.le)
    (fun g u hg => (owedAt_pos hg).2)

end Cert.KernelIdeal.Exchange
-- ==== Proof.Slots.lean ====
/-
  Slots: what device `c` holds for each of the sixteen indices, at each stage of its run: during the handshake, between grid
  points, and during the waits of the last grid point.
-/
module

public import proofs.«01_k».proof.Proof.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the indices -/

/-- One member of a family replaced, the others carried over. -/
theorem family_step {M : Type} [URA M] (Φ Φ' : Fin 16 → sProp M) (a : Fin 16) (h : ∀ j, j ≠ a → Φ j = Φ' j) :
    bigSep Finset.univ Φ ⊢ iprop(Φ a ∗ (Φ' a -∗ bigSep Finset.univ Φ')) := by
  have e : bigSep (Finset.univ.erase a) Φ = bigSep (Finset.univ.erase a) Φ' :=
    BI.bigSep_congr fun j hj => h j (Finset.ne_of_mem_erase hj)
  rw [show bigSep Finset.univ Φ = iprop(Φ a ∗ bigSep (Finset.univ.erase a) Φ) from BI.bigSep_erase (Finset.mem_univ a), e,
    show bigSep Finset.univ Φ' = iprop(Φ' a ∗ bigSep (Finset.univ.erase a) Φ') from BI.bigSep_erase (Finset.mem_univ a)]
  iintro ⟨Ha, Hr⟩
  isplitl [Ha]; · iexact Ha
  iintro Hb
  isplitl [Hb] <;> iassumption

/-- Two families side by side. -/
theorem family_zip {M : Type} [URA M] (Φ Ψ Θ : Fin 16 → sProp M) (h : ∀ j, iprop(Φ j ∗ Ψ j) ⊢ Θ j) :
    iprop(bigSep Finset.univ Φ ∗ bigSep Finset.univ Ψ) ⊢ bigSep Finset.univ Θ :=
  (Entails.of_eq (bigSep_sep Finset.univ Φ Ψ).symm).trans (bigSep_mono fun j _ => h j)

/-! ## The cells' records -/

/-- The kernel's own DMA semaphores: sixteen to send on, sixteen to receive on. -/
abbrev osem (k : Fin 32) : SemLoc sig := .dma (⟨4 + k.val, by have := k.isLt; show 4 + k.val < 36; omega⟩ : DmaSem sig)

def barEmb : Dev nD ↪ GSem nD τ sig := ⟨barCell, fun a b h => by
  have := congrArg (fun g : GSem nD τ sig => g.1.1) h; exact this⟩
def ownEmb : Dev nD × Fin 32 ↪ GSem nD τ sig := ⟨fun ck => ((ck.1 : Thread nD τ), osem ck.2), fun a b h => by
  have h1 := congrArg (fun g : GSem nD τ sig => g.1.1) h
  have h2 : osem a.2 = osem b.2 := congrArg (fun g : GSem nD τ sig => g.2) h
  have h3 := congrArg Fin.val (SemLoc.dma.inj h2)
  refine Prod.ext h1 (Fin.ext ?_)
  have : 4 + a.2.val = 4 + b.2.val := h3
  omega⟩

def barCells : Finset (GSem nD τ sig) := Finset.univ.map barEmb
def ownCells : Finset (GSem nD τ sig) := Finset.univ.map ownEmb

def lo (i : Fin 16) : Fin 32 := ⟨i.val, by have := i.isLt; omega⟩
def hi (i : Fin 16) : Fin 32 := ⟨16 + i.val, by have := i.isLt; omega⟩
theorem osem_lo (i : Fin 16) : osem (lo i) = .dma (sendSem i) := rfl
theorem osem_hi (i : Fin 16) : osem (hi i) = .dma (recvSem i) := by revert i; decide

theorem mem_bar (c : Dev nD) : barCell c ∈ barCells ∪ ownCells :=
  Finset.mem_union_left _ (Finset.mem_map.mpr ⟨c, Finset.mem_univ _, rfl⟩)
theorem mem_send (c : Dev nD) (i : Fin 16) : sendCell c i ∈ barCells ∪ ownCells :=
  Finset.mem_union_right _ (Finset.mem_map.mpr ⟨(c, lo i), Finset.mem_univ _, rfl⟩)
theorem mem_recv (c : Dev nD) (i : Fin 16) : recvCell c i ∈ barCells ∪ ownCells :=
  Finset.mem_union_right _ (Finset.mem_map.mpr ⟨(c, hi i), Finset.mem_univ _, by
    show ((c : Thread nD τ), osem (hi i)) = _; rw [osem_hi]⟩)

/-- Every cell's invariant, at the names `K`. -/
def recs (K : GSem nD τ sig → ℕ) : sProp 𝕄 := bigSep (barCells ∪ ownCells) fun g => cellInv ER (Rd m) (K g) g

instance recs_persistent (K : GSem nD τ sig → ℕ) : BI.Persistent (recs m K) := by unfold recs; infer_instance

theorem recs_at (K : GSem nD τ sig → ℕ) {g : GSem nD τ sig} (h : g ∈ barCells ∪ ownCells) : recs m K ⊢ cellInv ER (Rd m) (K g) g :=
  bigSep_elim h

/-- That round 0 of the cell is reached, for every barrier cell. -/
def barOpen : sProp 𝕄 := bigSep Finset.univ fun j : Dev nD => reached ER (barCell j) 0
instance barOpen_persistent : BI.Persistent (barOpen (F := F)) := by unfold barOpen; infer_instance

/-- … and for each of device `c`'s own DMA cells. -/
def ownOpen (c : Dev nD) : sProp 𝕄 := bigSep Finset.univ fun i : Fin 16 => iprop(reached ER (sendCell c i) 0 ∗ reached ER (recvCell c i) 0)
instance ownOpen_persistent (c : Dev nD) : BI.Persistent (ownOpen (F := F) c) := by unfold ownOpen; infer_instance

theorem barOpen_at (j : Dev nD) : barOpen (F := F) ⊢ reached ER (barCell j) 0 := bigSep_elim (Finset.mem_univ j)
theorem ownOpen_at (c : Dev nD) (i : Fin 16) : ownOpen (F := F) c ⊢ iprop(reached ER (sendCell c i) 0 ∗ reached ER (recvCell c i) 0) :=
  bigSep_elim (Finset.mem_univ i)

/-- What never changes. -/
def known (K : GSem nD τ sig → ℕ) (c : Dev nD) : sProp 𝕄 := iprop(recs m K ∗ levAts L lv ∗ barOpen ∗ ownOpen c)
instance known_persistent (K : GSem nD τ sig → ℕ) (c : Dev nD) : BI.Persistent (known m K c) := by unfold known; infer_instance

/-! ## The slots -/

/-- The positions on the cells of index `i`, and the credit for the copy to come. -/
def base (c : Dev nD) (i : Fin 16) : sProp 𝕄 :=
  iprop(atPos ER (sendCell c i) 0 ∅ 0 ∗ atPos ER (recvCell c i) 0 ∅ 0 ∗ if i = c then iprop(emp) else cred (tallyAt (recvCell c i) () N))

/-- After `d` of the fifteen signals. -/
def hslot (c : Dev nD) (d : ℕ) (j : Fin 16) : sProp 𝕄 :=
  iprop(sndAny c j ∗ if j = c then rcvAny c c
    else iprop(dutyTok ER (sendCell c j) 0 c ∗ dutyTok ER (recvCell j c) 0 c
      ∗ if dist c j ≤ d then iprop(emp) else iprop(dutyTok ER (barCell j) 0 c ∗ rcvAny c j)))

/-- Before grid point `t`. -/
def slot (c : Dev nD) (t : ℕ) (j : Fin 16) : sProp 𝕄 :=
  if j = c then iprop(sndAny c c ∗ if t = 0 then rcvAny c c else rcvRow c c (Rv m c))
  else if dist c j < t then cred (tallyAt (sendCell c j) () N)
  else iprop(sndAny c j ∗ dutyTok ER (sendCell c j) 0 c ∗ dutyTok ER (recvCell j c) 0 c ∗ rcvAny j c ∗ reached ER (recvCell j c) 0)

/-- After the waits of the indices below `n`. -/
def wslot (c : Dev nD) (n : ℕ) (i : Fin 16) : sProp 𝕄 :=
  if i = c then iprop(base c c ∗ sndAny c c ∗ rcvRow c c (Rv m c))
  else if n ≤ i.val then iprop(base c i ∗ cred (tallyAt (sendCell c i) () N))
  else iprop(atPos ER (sendCell c i) (0 + 1) ∅ 0 ∗ atPos ER (recvCell c i) (0 + 1) ∅ 0 ∗ sndAny c i ∗ rcvRow c i (Rv m c))

/-- What is owed after `d` signals. -/
def owedSig (c : Dev nD) (d : ℕ) : CellTallies nD τ sig Unit := dueR c 15 + dueB c (15 - d)

theorem owedSig_succ (c : Dev nD) {d : ℕ} (hd : d < 15) : owedSig c d = owedSig c (d + 1) + tallyAt (barCell (peer c (d + 1))) () 1 := by
  unfold owedSig
  rw [show 15 - d = (15 - (d + 1)) + 1 by omega, dueB, show 15 - (15 - (d + 1)) = d + 1 by omega, add_assoc]
theorem owedSig_end (c : Dev nD) : owedSig c 15 = dueR c 15 := by unfold owedSig; exact add_zero _

theorem owedAt_succ (c : Dev nD) {t : ℕ} (h0 : 0 < t) (ht : t < 16) : owedAt c t = owedAt c (t + 1) + tallyAt (recvCell (peer c t) c) () N := by
  unfold owedAt
  rw [if_neg (by omega), if_neg (by omega), show 16 - t = (16 - (t + 1)) + 1 by omega, dueR, show 15 - (16 - (t + 1)) = t by omega]
theorem owedAt_end (c : Dev nD) : owedAt c 16 = 0 := rfl
theorem owedAt_one (c : Dev nD) : owedAt c 1 = dueR c 15 := rfl
theorem owedAt_zero (c : Dev nD) : owedAt c 0 = owedSig c 0 := rfl

abbrev owing (c : Dev nD) (O : CellTallies nD τ sig Unit) : sProp 𝕄 := iprop(∃ W, owes (c : Thread nD τ) O W)

/-- The handshake after `d` signals. -/
def shake (c : Dev nD) (d : ℕ) : sProp 𝕄 := iprop(owing c (owedSig c d) ∗ bigSep Finset.univ (hslot (F := F) c d))

theorem hslot_same {c j : Dev nD} {d : ℕ} (h : j ≠ peer c (d + 1)) (hd : d < 15) : hslot (F := F) c d j = hslot c (d + 1) j := by
  unfold hslot
  by_cases hj : j = c
  · rw [if_pos hj, if_pos hj]
  · rw [if_neg hj, if_neg hj]
    by_cases h1 : dist c j ≤ d
    · rw [if_pos h1, if_pos (by omega)]
    · rw [if_neg h1, if_neg (fun h2 => h (eq_peer_of_dist (by omega)))]

theorem slot_same {c j : Dev nD} {t : ℕ} (h : j ≠ peer c t) (h0 : 0 < t) : slot m c t j = slot m c (t + 1) j := by
  unfold slot
  by_cases hj : j = c
  · rw [if_pos hj, if_pos hj, if_neg (by omega), if_neg (by omega)]
  · rw [if_neg hj, if_neg hj]
    by_cases h1 : dist c j < t
    · rw [if_pos h1, if_pos (by omega)]
    · rw [if_neg h1, if_neg (fun h2 => h (eq_peer_of_dist (by omega)))]

theorem slot_first {c j : Dev nD} (h : j ≠ c) : slot m c 0 j = slot m c 1 j := by
  unfold slot
  rw [if_neg h, if_neg h, if_neg (by omega), if_neg (by have := dist_pos h; omega)]

theorem wslot_same {c i : Dev nD} {n : ℕ} (h : i.val ≠ n) : wslot m c n i = wslot m c (n + 1) i := by
  unfold wslot
  by_cases hi : i = c
  · rw [if_pos hi, if_pos hi]
  · rw [if_neg hi, if_neg hi]
    by_cases h1 : n ≤ i.val
    · rw [if_pos h1, if_pos (by omega)]
    · rw [if_neg h1, if_neg (by omega)]

/-- The handshake's end: what the other devices handed over goes to its slots. -/
theorem hslot_end (c : Dev nD) :
    iprop(bigSep Finset.univ (hslot (F := F) c 15) ∗ bigSep (Finset.univ.erase c) fun e => barPay (F := F) c e) ⊢ bigSep Finset.univ (slot m c 0) := by
  rw [show bigSep Finset.univ (hslot (F := F) c 15) = iprop(hslot c 15 c ∗ bigSep (Finset.univ.erase c) (hslot (F := F) c 15)) from BI.bigSep_erase (Finset.mem_univ c),
    show bigSep Finset.univ (slot m c 0) = iprop(slot m c 0 c ∗ bigSep (Finset.univ.erase c) (slot m c 0)) from BI.bigSep_erase (Finset.mem_univ c)]
  have hz : iprop(bigSep (Finset.univ.erase c) (hslot (F := F) c 15) ∗ bigSep (Finset.univ.erase c) fun e => barPay (F := F) c e)
      ⊢ bigSep (Finset.univ.erase c) (slot m c 0) := by
    refine (Entails.of_eq (bigSep_sep (Finset.univ.erase c) (hslot (F := F) c 15) (fun e => barPay (F := F) c e)).symm).trans
      (bigSep_mono fun j hj => ?_)
    have hj' := Finset.ne_of_mem_erase hj
    unfold hslot slot barPay
    rw [if_neg hj', if_neg hj', if_pos (by have := dist_lt c j; omega), if_neg (by omega)]
    show iprop((sndAny c j ∗ dutyTok ER (sendCell c j) 0 c ∗ dutyTok ER (recvCell j c) 0 c ∗ emp) ∗ rcvAny j c ∗ reached ER (recvCell j c) 0) ⊢ _
    iintro ⟨⟨Hs, Ht1, Ht2, -⟩, Hv, Hr⟩
    isplitl [Hs]; · iexact Hs
    isplitl [Ht1]; · iexact Ht1
    isplitl [Ht2]; · iexact Ht2
    isplitl [Hv] <;> iassumption
  iintro ⟨⟨Hc, Hr⟩, Hp⟩
  isplitl [Hc]
  · unfold hslot slot; rw [if_pos rfl, if_pos rfl, if_pos rfl]; iexact Hc
  iapply hz
  isplitl [Hr] <;> iassumption

/-- All copies issued: what the waits start from. -/
theorem wslot_start (c : Dev nD) :
    iprop(bigSep Finset.univ (base (F := F) c) ∗ bigSep Finset.univ (slot m c 16)) ⊢ bigSep Finset.univ (wslot m c 0) := by
  refine family_zip _ _ _ fun j => ?_
  unfold slot wslot
  by_cases hj : j = c
  · subst hj
    rw [if_pos rfl, if_pos rfl, if_neg (by omega)]
  · rw [if_neg hj, if_neg hj, if_pos (dist_lt c j), if_pos (Nat.zero_le _)]

end Cert.KernelIdeal.Exchange
-- ==== Proof.Steps.lean ====
/-
  Steps: the run of the kernel, one piece at a time: a signal of the handshake, its wait, the store of the device's own block,
  the store and copy of a grid point, the waits of one index, and one block of the result.
-/
module

public import proofs.«01_k».proof.Proof.Slots

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the kernel. -/
abbrev Pg (F : FTy → Type) [FloatOps F] : Type 1 := Prog (TpuEff nD τ sig (Elt F) Λ₀ .tc) PUnit

abbrev 𝒱₀ : Variants := Variants.none

/-- The run of a piece of device `c`'s kernel. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : GSem nD τ sig → ℕ) (c : Dev nD)

/-! ## The handshake -/

theorem step_signal {d : ℕ} (hd : d < 15) {dst : Dev nD} (hdst : dst = peer c (d + 1)) {k : PUnit → Pg F} {Q : PUnit → sProp 𝕄} :
    iprop(known m K c ∗ shake c d)
      ⊢ iprop((shake c (d + 1) -∗ runs c (k ⟨⟩) Q) -∗ runs c (.op (.semSignal (dst : Thread nD τ) barS 1) k) Q) := by
  subst hdst
  have hne : peer c (d + 1) ≠ c := peer_ne c (by omega) (by omega)
  have hdist : dist c (peer c (d + 1)) = d + 1 := dist_peer c (by omega)
  have e1 : hslot (F := F) c d (peer c (d + 1)) = iprop(sndAny c (peer c (d + 1)) ∗ dutyTok ER (sendCell c (peer c (d + 1))) 0 c
      ∗ dutyTok ER (recvCell (peer c (d + 1)) c) 0 c ∗ dutyTok ER (barCell (peer c (d + 1))) 0 c ∗ rcvAny c (peer c (d + 1))) := by
    unfold hslot; rw [if_neg hne, if_neg (by omega)]
  have e2 : hslot (F := F) c (d + 1) (peer c (d + 1)) = iprop(sndAny c (peer c (d + 1)) ∗ dutyTok ER (sendCell c (peer c (d + 1))) 0 c
      ∗ dutyTok ER (recvCell (peer c (d + 1)) c) 0 c ∗ emp) := by
    unfold hslot; rw [if_neg hne, if_pos (by omega)]
  unfold known shake
  iintro ⟨⟨#Hrec, -, #Hbo, #Hoo⟩, ⟨%W, HO⟩, Hs⟩ Hk
  ihave H := (family_step (hslot (F := F) c d) (hslot c (d + 1)) (peer c (d + 1)) fun j hj => hslot_same hj hd) $$ Hs
  icases H with ⟨Hj, Hrest⟩
  ihave Hj := (Entails.of_eq e1) $$ Hj
  icases Hj with ⟨Hsnd, Ht1, Ht2, Htb, Hv⟩
  ihave #Hinv := (recs_at m K (mem_bar (peer c (d + 1)))) $$ Hrec
  ihave #Hb := (barOpen_at (peer c (d + 1))) $$ Hbo
  ihave #Ho := (ownOpen_at c (peer c (d + 1))) $$ Hoo
  icases Ho with ⟨-, #Ho⟩
  iapply (Rounds.wp_signal 𝒱₀ ER (Rd m) (c : Thread nD τ) none (dst := (peer c (d + 1) : Thread nD τ)) (sem := barS) (r := 0) (d := c)
      (κ := K (barCell (peer c (d + 1))))
      (by rw [duties_bar]; exact Finset.mem_erase.mpr ⟨hne.symm, Finset.mem_univ _⟩) (amount_bar m _ _) () (owedSig c (d + 1)) (owedSig_succ c hd))
    $$ [HO Htb Hv]
  · isplitr; · iexact Hinv
    isplitl [HO]; · iexact HO
    isplitl [Htb]; · iexact Htb
    isplitl [Hv]
    · rw [payload_bar]; unfold barPay
      isplitl [Hv]; · iexact Hv
      iexact Ho
    · iexact Hb
  iintro HO
  iapply Hk
  isplitl [HO]; · iexists W; iexact HO
  iapply Hrest
  iapply (Entails.of_eq e2.symm)
  isplitl [Hsnd]; · iexact Hsnd
  isplitl [Ht1]; · iexact Ht1
  isplitl [Ht2]; · iexact Ht2
  iempintro

theorem step_barrier {k : PUnit → Pg F} {Q : PUnit → sProp 𝕄} :
    iprop(known m K c ∗ shake c 15 ∗ atPos ER (barCell c) 0 ∅ 0 ∗ cred (tallyAt (barCell c) () 15))
      ⊢ iprop(((owing c (owedAt c 1) ∗ atPos ER (barCell c) (0 + 1) ∅ 0 ∗ bigSep Finset.univ (slot m c 0)) -∗ runs c (k ⟨⟩) Q)
          -∗ runs c (.op (.semWait barS 15) k) Q) := by
  unfold known shake
  rw [owedSig_end, owedAt_one]
  iintro ⟨⟨#Hrec, #Hlev, -, -⟩, ⟨⟨%W, HO⟩, Hs⟩, Hat, Hc⟩ Hk
  ihave #Hinv := (recs_at m K (mem_bar c)) $$ Hrec
  iapply (Rounds.wp_wait_rest_token 𝒱₀ ER (Rd m) (c : Thread nD τ) none (κ := K (barCell c))
      (wpE_semWait_eq 𝒱₀ (c : Thread nD τ) none Set.univ) (Set.mem_univ _) () (O := dueR c 15) (W := W) (R := 0) (m := 0) (T := ∅)
      ((Nat.zero_add 15).trans (expect_bar m c).symm)) $$ [Hc HO Hat]
  · isplitr; · iexact Hinv
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iapply (hslot_end m c)
  isplitl [Hs] <;> iassumption

/-! ## A grid point's block -/

theorem sndRow_eq (i : Fin 16) (f : Buf (Elt F) ((c : Thread nD τ).loc cc0_scratch1)) :
    sndRow c i f = (((sndM.access (rect i)).loc (c : Thread nD τ)) ↦[(sndM.access (rect i)).set]{fullShare} f : sProp 𝕄) := by
  unfold sndRow; rw [show (sndM.access (rect i)).set = rows i from View.set_slice_whole _ _]
theorem rcvRow_eq (i : Fin 16) (f : Buf (Elt F) ((c : Thread nD τ).loc cc0_scratch2)) :
    rcvRow c i f = (((rcvM.access (rect i)).loc (c : Thread nD τ)) ↦[(rcvM.access (rect i)).set]{fullShare} f : sProp 𝕄) := by
  unfold rcvRow; rw [show (rcvM.access (rect i)).set = rows i from View.set_slice_whole _ _]

/-- The device's own block, at grid point 0. -/
theorem step_own {off : Fin 2 → ℕ} (hoff : off = ![256 * c.val, 0]) {hb hb' : ∀ a, off a + S256x512.size a ≤ S4096x512.size a} {hl hx hm}
    {w : Vec F S256x512 .bf16} (hw : w = Yb m c c) {k : PUnit → Pg F} {Q : PUnit → sProp 𝕄} :
    bigSep Finset.univ (slot m c 0)
      ⊢ iprop((bigSep Finset.univ (slot m c 1) -∗ runs c (k ⟨⟩) Q)
          -∗ runs c (.op (.load rcvM (Rect.unit (s := S4096x512) off S256x512.size hb).toLoadRect hl) fun _ =>
              .op (.store rcvM (Rect.unit (s := S4096x512) off S256x512.size hb') w Finset.univ hx hm) k) Q) := by
  subst hoff; subst hw
  iintro Hs Hk
  ihave H := (family_step (slot m c 0) (slot m c 1) c fun j hj => slot_first m hj) $$ Hs
  rw [show slot m c 0 c = iprop(sndAny c c ∗ rcvAny c c) from by unfold slot; rw [if_pos rfl, if_pos rfl],
    show slot m c 1 c = iprop(sndAny c c ∗ rcvRow c c (Rv m c)) from by unfold slot; rw [if_pos rfl, if_neg (by omega)]]
  icases H with ⟨⟨Hsnd, Hv⟩, Hrest⟩
  unfold rcvAny
  icases Hv with ⟨%f, Hv⟩
  ihave Hv := (Entails.of_eq (rcvRow_eq c c f)) $$ Hv
  iapply (wp_load_rect 𝒱₀ (c : Thread nD τ) none Set.univ (m := rcvM) (r := rect c) (S := (rcvM.access (rect c)).set) (f := f) (Finset.Subset.refl _)) $$ Hv; iintro Hv
  iapply (wp_store 𝒱₀ (c : Thread nD τ) none Set.univ (m := rcvM) (r := rect c) (Mk := Finset.univ) (S := (rcvM.access (rect c)).set) (f := f)
    (by rw [View.setOn_univ])) $$ Hv; iintro Hv
  iapply Hk
  iapply Hrest
  isplitl [Hsnd]; · iexact Hsnd
  rw [rcvRow_eq]
  rw [show (((rcvM.access (rect c)).loc (c : Thread nD τ)) ↦[(rcvM.access (rect c)).set]{fullShare} (Rv m c) : sProp 𝕄)
    = (((rcvM.access (rect c)).loc (c : Thread nD τ)) ↦[(rcvM.access (rect c)).set]{fullShare} ((rcvM.access (rect c)).write (Elt F) f (Yb m c c) Finset.univ) : sProp 𝕄) from by
      refine pointsTo_congr fun x hx => ?_
      rw [show (rcvM.access (rect c)).set = rows c from View.set_slice_whole _ _] at hx
      have hi := mem_rows.mp hx
      have e : x = (rcvM.access (rect c)).emb (within x) := by show x = (rect c).emb (within x); rw [← hi, emb_within]
      conv_rhs => rw [e]
      rw [View.write_emb_of_mem _ _ (Finset.mem_univ _)]
      show stack (fun i => Yb m i c) x = Yb m c c (within x)
      unfold stack; rw [hi]]
  iexact Hv

/-- What a store of a block's rows leaves of the buffer, read back. -/
theorem read_stored (i : Fin 16) (f : Buf (Elt F) ((c : Thread nD τ).loc cc0_scratch1)) (w : Vec F S256x512 .bf16) :
    (sndV i).view.read (Elt F) ((sndM.access (rect i)).write (Elt F) f w Finset.univ) = w :=
  View.read_write_univ _ _

/-- The block for the device `t` places ahead, at grid point `t`: stored in its row block of the send buffer and copied to row
    block `c` of that device's receive buffer. -/
theorem step_send {t : ℕ} (h0 : 0 < t) (ht : t < 16) {n : Dev nD} (hn : n = peer c t) {off2 off5 off6 : Fin 2 → ℕ}
    (h2 : off2 = ![256 * (peer c t).val, 0]) (h5 : off5 = ![256 * c.val, 0]) (h6 : off6 = ![256 * (peer c t).val, 0])
    {hb hb' : ∀ a, off2 a + S256x512.size a ≤ S4096x512.size a} {hb5 : ∀ a, off5 a + S256x512.size a ≤ S4096x512.size a}
    {hb6 : ∀ a, off6 a + S256x512.size a ≤ S4096x512.size a} {hl hx hm}
    {w : Vec F S256x512 .bf16} (hw : w = Yb m c (peer c t)) {s s' : DmaSem sig} (hs : s = sendSem (peer c t)) (hs' : s' = recvSem c)
    {hu5 hu6 hsc hsrc hdst hsem} {k : PUnit → Pg F} {Q : PUnit → sProp 𝕄} :
    iprop(known m K c ∗ owing c (owedAt c t) ∗ bigSep Finset.univ (slot m c t))
      ⊢ iprop(((owing c (owedAt c (t + 1)) ∗ bigSep Finset.univ (slot m c (t + 1))) -∗ runs c (k ⟨⟩) Q)
          -∗ runs c (.op (.load sndM (Rect.unit (s := S4096x512) off2 S256x512.size hb).toLoadRect hl) fun _ =>
              .op (.store sndM (Rect.unit (s := S4096x512) off2 S256x512.size hb') w Finset.univ hx hm) fun _ =>
              .op (.enqueueDma (sndM.slice (Rect.unit (s := S4096x512) off6 S256x512.size hb6) hu6)
                (.remote (Dev.tc n : Thread nD τ) (rcvM.slice (Rect.unit (s := S4096x512) off5 S256x512.size hb5) hu5) (.dma s) hsc) (.dma s') hsrc hdst hsem) k) Q) := by
  subst hn h2 h5 h6 hw hs hs'
  have hne : peer c t ≠ c := peer_ne c h0 ht
  have hdist : dist c (peer c t) = t := dist_peer c ht
  have e1 : slot m c t (peer c t) = iprop((∃ f, sndRow c (peer c t) f) ∗ dutyTok ER (sendCell c (peer c t)) 0 c ∗ dutyTok ER (recvCell (peer c t) c) 0 c
      ∗ (∃ f, rcvRow (peer c t) c f) ∗ reached ER (recvCell (peer c t) c) 0) := by
    unfold slot; rw [if_neg hne, if_neg (by omega)]; rfl
  have e2 : slot m c (t + 1) (peer c t) = cred (tallyAt (sendCell c (peer c t)) () N) := by
    unfold slot; rw [if_neg hne, if_pos (by omega)]
  unfold known
  iintro ⟨⟨#Hrec, -, -, #Hoo⟩, ⟨%W, HO⟩, Hs⟩ Hk
  ihave H := (family_step (slot m c t) (slot m c (t + 1)) (peer c t) fun j hj => slot_same m hj h0) $$ Hs
  icases H with ⟨Hj, Hrest⟩
  ihave Hj := (Entails.of_eq e1) $$ Hj
  icases Hj with ⟨⟨%fs, Hsnd⟩, Ht1, Ht2, ⟨%fd, Hv⟩, #Hr⟩
  ihave Hsnd := (Entails.of_eq (sndRow_eq c (peer c t) fs)) $$ Hsnd
  ihave #Hi1 := (recs_at m K (mem_send c (peer c t))) $$ Hrec
  ihave #Hi2 := (recs_at m K (mem_recv (peer c t) c)) $$ Hrec
  ihave #Ho := (ownOpen_at c (peer c t)) $$ Hoo
  icases Ho with ⟨#Ho, -⟩
  iapply (wp_load_rect 𝒱₀ (c : Thread nD τ) none Set.univ (m := sndM) (r := rect (peer c t)) (S := (sndM.access (rect (peer c t))).set) (f := fs)
    (Finset.Subset.refl _)) $$ Hsnd; iintro Hsnd
  iapply (wp_store 𝒱₀ (c : Thread nD τ) none Set.univ (m := sndM) (r := rect (peer c t)) (Mk := Finset.univ) (S := (sndM.access (rect (peer c t))).set) (f := fs)
    (by rw [View.setOn_univ])) $$ Hsnd; iintro Hsnd
  iapply (Rounds.wp_send_pointsTo 𝒱₀ ER (Rd m) (c : Thread nD τ) none (c' := (peer c t : Thread nD τ)) (src := sndV (peer c t)) (dst := rcvV c)
      (sS := .dma (sendSem (peer c t))) (sem := .dma (recvSem c)) (q := fullShare)
      (fs := (sndM.access (rect (peer c t))).write (Elt F) fs (Yb m c (peer c t)) Finset.univ)
      (κ₁ := K (sendCell c (peer c t))) (κ₂ := K (recvCell (peer c t) c))
      (r₁ := 0) (r₂ := 0) (d₁ := c) (d₂ := c) (fd := fd)
      (by rw [duties_send m hne]; exact Finset.mem_singleton_self _) (by rw [duties_recv m hne.symm]; exact Finset.mem_singleton_self _)
      () () N rfl (amount_send m c _ _) (amount_recv m _ _ _) (owedAt c (t + 1)) (owedAt_succ c h0 ht) (W := W)
      (by
        rw [payload_send]; unfold sndAny
        iintro H; iexists _
        iapply (Entails.of_eq (sndRow_eq c (peer c t) _).symm); iexact H)
      (by rw [payload_recv, landed m c (peer c t) _ _ (read_stored c _ _ _)])) $$ [Hsnd Hv HO Ht1 Ht2]
  · isplitr; · iexact Hi1
    isplitr; · iexact Hi2
    isplitl [Hsnd]; · iexact Hsnd
    isplitl [Hv]; · iapply (Entails.of_eq (rcvRow_eq (peer c t) c fd)); iexact Hv
    isplitl [HO]; · iexact HO
    isplitl [Ht1]; · iexact Ht1
    isplitr; · iexact Ho
    isplitl [Ht2]; · iexact Ht2
    iexact Hr
  iintro ⟨HcS, HO⟩
  iapply Hk
  isplitl [HO]; · iexists W; iexact HO
  iapply Hrest
  iapply (Entails.of_eq e2.symm)
  iexact HcS

/-! ## The waits -/

/-- Nothing owed, the waits of the indices below `n` done. -/
def waited (n : ℕ) : sProp 𝕄 := iprop(owing c 0 ∗ bigSep Finset.univ (wslot m c n))

theorem step_wait {n : ℕ} (hn : n < 16) {b : BitVec 1} (hb : b = 1#1 ↔ c ≠ (⟨n, hn⟩ : Dev nD)) {s s' : DmaSem sig}
    (hs : s = sendSem ⟨n, hn⟩) (hs' : s' = recvSem ⟨n, hn⟩) {v w v' w' : Memref sig .tc .vmem S256x512 .bf16}
    (hw : w.view.dmaCredit = N) (hw' : w'.view.dmaCredit = N) {h1 h2 h3 h4} {α : Type} {rest : Prog (TpuEff nD τ sig (Elt F) Λ₀ .tc) α} {Q : α → sProp 𝕄} :
    iprop(known m K c ∗ waited m c n)
      ⊢ iprop((waited m c (n + 1) -∗ runs c rest Q)
          -∗ runs c (if b = 1#1 then .op (.waitDma2 s v w h1 h2) fun _ => .op (.waitDma2 s' v' w' h3 h4) fun _ => rest else rest) Q) := by
  subst hs hs'
  unfold known waited
  iintro ⟨⟨#Hrec, -, -, -⟩, ⟨%W, HO⟩, Hs⟩ Hk
  ihave H := (family_step (wslot m c n) (wslot m c (n + 1)) ⟨n, hn⟩ fun i hi => wslot_same m (fun h => hi (Fin.ext h))) $$ Hs
  icases H with ⟨Hj, Hrest⟩
  by_cases hc : c = (⟨n, hn⟩ : Dev nD)
  · rw [if_neg (fun h => hb.mp h hc)]
    have e : wslot m c n ⟨n, hn⟩ = wslot m c (n + 1) ⟨n, hn⟩ := by unfold wslot; rw [if_pos hc.symm, if_pos hc.symm]
    ihave Hj := (Entails.of_eq e) $$ Hj
    iapply Hk
    isplitl [HO]; · iexists W; iexact HO
    iapply Hrest; iexact Hj
  · rw [if_pos (hb.mpr hc)]
    have hc' : (⟨n, hn⟩ : Dev nD) ≠ c := fun h => hc h.symm
    have e1 : wslot m c n ⟨n, hn⟩ = iprop((atPos ER (sendCell c ⟨n, hn⟩) 0 ∅ 0 ∗ atPos ER (recvCell c ⟨n, hn⟩) 0 ∅ 0 ∗ cred (tallyAt (recvCell c ⟨n, hn⟩) () N))
        ∗ cred (tallyAt (sendCell c ⟨n, hn⟩) () N)) := by
      unfold wslot base; rw [if_neg hc', if_pos (Nat.le_refl n), if_neg hc']
    have e2 : wslot m c (n + 1) ⟨n, hn⟩ = iprop(atPos ER (sendCell c ⟨n, hn⟩) (0 + 1) ∅ 0 ∗ atPos ER (recvCell c ⟨n, hn⟩) (0 + 1) ∅ 0
        ∗ sndAny c ⟨n, hn⟩ ∗ rcvRow c ⟨n, hn⟩ (Rv m c)) := by
      unfold wslot; rw [if_neg hc', if_neg (by show ¬ n + 1 ≤ n; omega)]
    ihave Hj := (Entails.of_eq e1) $$ Hj
    icases Hj with ⟨⟨HatS, HatV, HcV⟩, HcS⟩
    ihave #Hi1 := (recs_at m K (mem_send c ⟨n, hn⟩)) $$ Hrec
    ihave #Hi2 := (recs_at m K (mem_recv c ⟨n, hn⟩)) $$ Hrec
    iapply (Rounds.wp_wait_rest_token 𝒱₀ ER (Rd m) (c : Thread nD τ) none (κ := K (sendCell c ⟨n, hn⟩))
        (wpE_waitDma2_eq 𝒱₀ (c : Thread nD τ) none Set.univ) (Set.mem_univ _) () (O := 0) (W := W) (R := 0) (m := 0) (T := ∅)
        ((Nat.zero_add _).trans (hw.trans (expect_send m hc').symm))) $$ [HcS HO HatS]
    · isplitr; · iexact Hi1
      isplitl [HcS]; · iexact HcS
      isplitl [HO]; · iexact HO
      isplitr; · rw [MayWait_zero]; iempintro
      iexact HatS
    iintro ⟨HO, HatS, -, Hpay⟩
    ihave Hsnd := (Entails.of_eq (rest_send m hc')) $$ Hpay
    iapply (Rounds.wp_wait_rest_token 𝒱₀ ER (Rd m) (c : Thread nD τ) none (κ := K (recvCell c ⟨n, hn⟩))
        (wpE_waitDma2_eq 𝒱₀ (c : Thread nD τ) none Set.univ) (Set.mem_univ _) () (O := 0) (R := 0) (m := 0) (T := ∅)
        ((Nat.zero_add _).trans (hw'.trans (expect_recv m hc').symm))) $$ [HcV HO HatV]
    · isplitr; · iexact Hi2
      isplitl [HcV]; · iexact HcV
      isplitl [HO]; · iexact HO
      isplitr; · rw [MayWait_zero]; iempintro
      iexact HatV
    iintro ⟨HO, HatV, -, Hpay⟩
    ihave Hv := (Entails.of_eq (rest_recv m hc')) $$ Hpay
    iapply Hk
    isplitl [HO]; · iexists _; iexact HO
    iapply Hrest
    iapply (Entails.of_eq e2.symm)
    isplitl [HatS]; · iexact HatS
    isplitl [HatV]; · iexact HatV
    isplitl [Hsnd] <;> iassumption

/-! ## The result, block by block -/

end Cert.KernelIdeal.Exchange
-- ==== Proof.Finish.lean ====
/-
  Finish: after the last wait. The thirty-two counters of a device close, the row blocks of its two scratch buffers join to whole
  buffers, and the received blocks become the result, one row block at a time.
-/
module

public import proofs.«01_k».proof.Proof.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The counters -/

/-- A family over the thirty-two cells is two over the sixteen indices. -/
theorem halves (Φ : Fin 32 → sProp 𝕄) : bigSep Finset.univ Φ = bigSep Finset.univ fun i : Fin 16 => iprop(Φ (lo i) ∗ Φ (hi i)) := by
  let el : Fin 16 ↪ Fin 32 := ⟨lo, fun a b h => Fin.ext (by have := congrArg Fin.val h; simpa only [lo] using this)⟩
  let eh : Fin 16 ↪ Fin 32 := ⟨hi, fun a b h => Fin.ext (by have := congrArg Fin.val h; simp only [hi] at this; omega)⟩
  have hu : (Finset.univ : Finset (Fin 32)) = Finset.univ.map el ∪ Finset.univ.map eh := by decide
  have hd : Disjoint (Finset.univ.map el) (Finset.univ.map eh) := by decide
  rw [hu, bigSep_union hd, bigSep_map, bigSep_map, bigSep_sep']
  rfl

/-- One index's two cells closed. -/
theorem close_one (i : Fin 16) :
    iprop(recs m K ∗ wslot m c 16 i)
      ⊢ iprop(|={Set.univ}=> ((semVal ((c : Thread nD τ), osem (lo i)) 0 ∗ semVal ((c : Thread nD τ), osem (hi i)) 0) ∗ (∃ f, sndRow c i f) ∗ rcvRow c i (Rv m c))) := by
  rw [osem_lo, osem_hi]
  iintro ⟨#Hrec, Hs⟩
  ihave #Hi1 := (recs_at m K (mem_send c i)) $$ Hrec
  ihave #Hi2 := (recs_at m K (mem_recv c i)) $$ Hrec
  by_cases hi : i = c
  · subst hi
    have e : wslot m i 16 i = iprop((atPos ER (sendCell i i) 0 ∅ 0 ∗ atPos ER (recvCell i i) 0 ∅ 0 ∗ emp) ∗ (∃ f, sndRow i i f) ∗ rcvRow i i (Rv m i)) := by
      unfold wslot base; rw [if_pos rfl, if_pos rfl]; rfl
    ihave Hs := (Entails.of_eq e) $$ Hs
    icases Hs with ⟨⟨H1, H2, -⟩, Hb⟩
    imod (Rounds.cell_close ER (Rd m) (Set.mem_univ (K (sendCell i i))) id (duties_send_self m i)) $$ [H1] with H1
    · isplitr; · iexact Hi1
      iexact H1
    imod (Rounds.cell_close ER (Rd m) (Set.mem_univ (K (recvCell i i))) id (duties_recv_self m i)) $$ [H2] with H2
    · isplitr; · iexact Hi2
      iexact H2
    imodintro
    isplitr [Hb]
    · isplitl [H1] <;> iassumption
    iexact Hb
  · have e : wslot m c 16 i = iprop(atPos ER (sendCell c i) (0 + 1) ∅ 0 ∗ atPos ER (recvCell c i) (0 + 1) ∅ 0 ∗ (∃ f, sndRow c i f) ∗ rcvRow c i (Rv m c)) := by
      unfold wslot; rw [if_neg hi, if_neg (by have := i.isLt; omega)]; rfl
    ihave Hs := (Entails.of_eq e) $$ Hs
    icases Hs with ⟨H1, H2, Hb⟩
    imod (Rounds.cell_close ER (Rd m) (Set.mem_univ (K (sendCell c i))) id (duties_later m (sendCell c i))) $$ [H1] with H1
    · isplitr; · iexact Hi1
      iexact H1
    imod (Rounds.cell_close ER (Rd m) (Set.mem_univ (K (recvCell c i))) id (duties_later m (recvCell c i))) $$ [H2] with H2
    · isplitr; · iexact Hi2
      iexact H2
    imodintro
    isplitr [Hb]
    · isplitl [H1] <;> iassumption
    iexact Hb

/-! ## The buffers -/

/-- The send buffer's row blocks join to the whole. -/
theorem join_snd : bigSep Finset.univ (fun i : Fin 16 => iprop(∃ f, sndRow (F := F) c i f))
    ⊢ iprop(∃ f : Buf (Elt F) ((c : Thread nD τ).loc cc0_scratch1), ((c : Thread nD τ).loc cc0_scratch1) ↦{fullShare} f) := by
  iintro H
  ihave H := (bigSep_exists_pi Finset.univ fun (i : Fin 16) (f : Buf (Elt F) ((c : Thread nD τ).loc cc0_scratch1)) => sndRow (F := F) c i f) $$ H
  icases H with ⟨%fs, H⟩
  unfold sndRow
  ihave H := (pointsTo_biUnion_join Finset.univ rows fs (fs 0) fun i _ j _ h => rows_disjoint h) $$ H
  icases H with ⟨%g, -, H⟩
  rewrite [rows_cover]
  iexists g
  iexact H

/-- The send buffer is its row blocks. -/
theorem split_snd (f : Buf (Elt F) ((c : Thread nD τ).loc cc0_scratch1)) :
    (((c : Thread nD τ).loc cc0_scratch1) ↦{fullShare} f : sProp 𝕄) = bigSep Finset.univ fun i : Fin 16 => sndRow (F := F) c i f := by
  unfold sndRow
  have e := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ rows fun i _ j _ h => rows_disjoint h
  rw [rows_cover] at e
  exact e

/-- So is the receive buffer. -/
theorem split_rcv (f : Buf (Elt F) ((c : Thread nD τ).loc cc0_scratch2)) :
    (((c : Thread nD τ).loc cc0_scratch2) ↦{fullShare} f : sProp 𝕄) = bigSep Finset.univ fun i : Fin 16 => rcvRow (F := F) c i f := by
  unfold rcvRow
  have e := pointsTo_biUnion (nD := nD) (τ := τ) (sig := sig) (Ix := Unit) (Val := Elt F) (Name := ℕ) (U := UU) (Lvl := ℕ)
    (ℓ := (c : Thread nD τ).loc cc0_scratch2) (q := fullShare) (f := f) Finset.univ rows fun i _ j _ h => rows_disjoint h
  rw [rows_cover] at e
  exact e

/-- All of it, after the last wait. -/
theorem close_all :
    iprop(recs m K ∗ bigSep Finset.univ (wslot m c 16))
      ⊢ iprop(|={Set.univ}=> (Pipeline.ownSems0 osem c
          ∗ (∃ f : Buf (Elt F) ((c : Thread nD τ).loc cc0_scratch1), ((c : Thread nD τ).loc cc0_scratch1) ↦{fullShare} f)
          ∗ (((c : Thread nD τ).loc cc0_scratch2) ↦{fullShare} Rv m c))) := by
  have h : iprop(recs m K ∗ bigSep Finset.univ (wslot m c 16))
      ⊢ iprop(|={Set.univ}=> bigSep Finset.univ fun i : Fin 16 => iprop((semVal ((c : Thread nD τ), osem (lo i)) 0 ∗ semVal ((c : Thread nD τ), osem (hi i)) 0)
        ∗ (∃ f, sndRow c i f) ∗ rcvRow c i (Rv m c))) := by
    refine BIBase.Entails.trans ?_ (bigSep_fupd _ _)
    refine BIBase.Entails.trans ?_ (bigSep_mono fun i _ => close_one m K c i)
    rw [bigSep_sep']
    exact BI.sep_mono_l (bigSep_of_persistent Finset.univ (recs m K))
  refine h.trans ?_
  have e : (bigSep Finset.univ fun i : Fin 16 => iprop((semVal ((c : Thread nD τ), osem (lo i)) 0 ∗ semVal ((c : Thread nD τ), osem (hi i)) 0)
        ∗ (∃ f, sndRow c i f) ∗ rcvRow c i (Rv m c)) : sProp 𝕄)
      = iprop((bigSep Finset.univ fun k => semVal ((c : Thread nD τ), osem k) 0) ∗ (bigSep Finset.univ fun i : Fin 16 => iprop(∃ f, sndRow (F := F) c i f))
        ∗ bigSep Finset.univ fun i : Fin 16 => rcvRow c i (Rv m c)) := by
    rw [halves]; simp only [bigSep_sep']
  rw [e]
  iintro H
  imod H with ⟨H1, H2, H3⟩
  imodintro
  isplitl [H1]; · unfold Pipeline.ownSems0; iexact H1
  isplitl [H2]; · iapply (join_snd c); iexact H2
  iapply (Entails.of_eq (split_rcv c (Rv m c)).symm); iexact H3

/-! ## The result -/

abbrev outM : Memref sig .tc .vmem S4096x512 .f32 := Memref.whole cc0_stg2_0

/-- What the receive buffer holds at the end and the result with its first `n` row blocks in place. -/
def placed (g : Buf (Elt F) ((c : Thread nD τ).loc cc0_stg2_0)) (n : ℕ) : sProp 𝕄 :=
  iprop((((c : Thread nD τ).loc cc0_scratch2) ↦{fullShare} Rv m c)
    ∗ (((c : Thread nD τ).loc cc0_stg2_0) ↦{fullShare} fill (fun i => k0_pay7 (Yb m i c)) g n))

/-- A row block of the receive buffer, read. -/
theorem read_block (i : Fin 16) : (rcvM.access (rect i)).read (Elt F) (Rv m c) = Yb m i c := by
  funext y
  show Rv m c ((rect i).emb y) = _
  exact stack_emb (fun i => Yb m i c) i y

/-- One more row block written. -/
theorem write_block (g : Buf (Elt F) ((c : Thread nD τ).loc cc0_stg2_0)) {n : ℕ} (hn : n < 16) :
    (outM.access (rect ⟨n, hn⟩)).write (Elt F) (fill (fun i => k0_pay7 (Yb m i c)) g n) (k0_pay7 (Yb m ⟨n, hn⟩ c)) Finset.univ
      = fill (fun i => k0_pay7 (Yb m i c)) g (n + 1) := by
  funext x
  by_cases hx : blockOf x = ⟨n, hn⟩
  · obtain ⟨y, rfl⟩ : ∃ y, (rect ⟨n, hn⟩).emb y = x := ⟨within x, by rw [← hx]; exact emb_within x⟩
    rw [show (outM.access (rect ⟨n, hn⟩)).write (Elt F) (fill (fun i => k0_pay7 (Yb m i c)) g n) (k0_pay7 (Yb m ⟨n, hn⟩ c)) Finset.univ ((rect ⟨n, hn⟩).emb y)
      = k0_pay7 (Yb m ⟨n, hn⟩ c) y from View.write_emb_of_mem _ _ (Finset.mem_univ y)]
    unfold fill
    rw [if_pos (by rw [blockOf_emb]; exact Nat.lt_succ_self n), stack_emb]
  · rw [View.write_of_not_mem _ _ _ (by
      rw [View.setOn_univ]; intro h; exact hx (mem_rows.mp (by simpa only [Memref.access, View.set_slice_whole] using h)))]
    unfold fill
    have : (blockOf x).val ≠ n := fun h => hx (Fin.ext h)
    by_cases h : (blockOf x).val < n
    · rw [if_pos h, if_pos (by omega)]
    · rw [if_neg h, if_neg (by omega)]

/-- A row block of the receive buffer is loaded. -/
theorem step_read (g : Buf (Elt F) ((c : Thread nD τ).loc cc0_stg2_0)) {n' n : ℕ} (hn : n < 16) {off : Fin 2 → ℕ} (hoff : off = ![256 * n, 0])
    {hb : ∀ a, off a + S256x512.size a ≤ S4096x512.size a} {hl}
    {α : Type} {k : Vec F S256x512 .bf16 → Prog (TpuEff nD τ sig (Elt F) Λ₀ .tc) α} {Q : α → sProp 𝕄} :
    placed m c g n'
      ⊢ iprop((placed m c g n' -∗ runs c (k (Yb m ⟨n, hn⟩ c)) Q)
          -∗ runs c (.op (.load rcvM (Rect.unit (s := S4096x512) off S256x512.size hb).toLoadRect hl) k) Q) := by
  have hoff' : off = ![256 * (⟨n, hn⟩ : Fin 16).val, 0] := hoff
  clear hoff
  subst hoff'
  unfold placed
  iintro ⟨Hr, Ho⟩ Hk
  iapply (wp_load_rect 𝒱₀ (c : Thread nD τ) none Set.univ (m := rcvM) (r := rect ⟨n, hn⟩) (S := Finset.univ) (f := Rv m c) (Finset.subset_univ _)) $$ Hr; iintro Hr
  rewrite [read_block]
  iapply Hk
  isplitl [Hr] <;> iassumption

/-- A row block of the result is stored. -/
theorem step_write (g : Buf (Elt F) ((c : Thread nD τ).loc cc0_stg2_0)) {n : ℕ} (hn : n < 16) {off : Fin 2 → ℕ} (hoff : off = ![256 * n, 0])
    {hb' hb'' : ∀ a, off a + S256x512.size a ≤ S4096x512.size a} {hl' hx hm} {v : Vec F S256x512 .f32}
    (hv : v = k0_pay7 (Yb m ⟨n, hn⟩ c)) {α : Type} {k : PUnit → Prog (TpuEff nD τ sig (Elt F) Λ₀ .tc) α} {Q : α → sProp 𝕄} :
    placed m c g n
      ⊢ iprop((placed m c g (n + 1) -∗ runs c (k ⟨⟩) Q)
          -∗ runs c (.op (.load outM (Rect.unit (s := S4096x512) off S256x512.size hb').toLoadRect hl') fun _ =>
              .op (.store outM (Rect.unit (s := S4096x512) off S256x512.size hb'') v Finset.univ hx hm) k) Q) := by
  have hoff' : off = ![256 * (⟨n, hn⟩ : Fin 16).val, 0] := hoff
  clear hoff
  subst hoff' hv
  unfold placed
  iintro ⟨Hr, Ho⟩ Hk
  iapply (wp_load_rect 𝒱₀ (c : Thread nD τ) none Set.univ (m := outM) (r := rect ⟨n, hn⟩) (S := Finset.univ) (Finset.subset_univ _)) $$ Ho; iintro Ho
  iapply (wp_store 𝒱₀ (c : Thread nD τ) none Set.univ (m := outM) (r := rect ⟨n, hn⟩) (Mk := Finset.univ) (S := Finset.univ) (Finset.subset_univ _)) $$ Ho; iintro Ho
  iapply Hk
  isplitl [Hr]; · iexact Hr
  rewrite [write_block]
  iexact Ho

end Cert.KernelIdeal.Exchange
-- ==== Proof.Table.lean ====
/-
  Table: the prefetched table at device `c` holds the word `c`; the windows of the call at that table, and what their staging
  buffers hold at each grid point.
-/
module

public import proofs.«01_k».proof.Proof.Slots

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The table of device `c`. -/
def tbl (c : Dev nD) : pre0.Contents (Elt F)
  | 0 => fun _ => (word c : BitVec 32)
  | ⟨_ + 1, h⟩ => absurd h (Nat.not_lt.2 (Nat.le_add_left _ _))

/-- The second window's block at point `i`: the columns of the device as many places ahead. -/
theorem map1_pnt (c : Dev nD) (t : Fin 16) : cc0_transform_1 (F := F) inb_S1_S1_0 numel1_S1 (tbl c) (pnt t) = ![0, (peer c t.val).val] := by
  have h : ![(0#32 : BitVec 32).toNat, (Scalar.remsi (Scalar.addi (word c) (BitVec.ofNat 32 (pnt t 0).val)) 16#32).toNat] = ![0, (peer c t.val).val] := by
    revert c t; decide
  exact h

theorem pnt_onto (i : grid0.Coords) : ∃ t : Fin 16, pnt t = i := by
  refine ⟨⟨(i 0).val, (i 0).isLt⟩, ?_⟩
  funext a
  have ha : a = 0 := Subsingleton.elim _ _
  subst ha
  exact Fin.ext (pnt_zero _)

theorem ok_tbl (c : Dev nD) : ok0 (F := F) (tbl c) := by
  intro i
  obtain ⟨t, rfl⟩ := pnt_onto i
  rw [map1_pnt]
  have h : ∀ j : Fin 16, ∃ h : (∀ a, ((![0, j.val] : Fin 2 → ℕ) a + 1) * S4096x512.size a ≤ S4096x8192.size a),
      EltTy.bits .bf16 = 32 ∨ (Rect.block (s := S4096x8192) S4096x512.size ![0, j.val] h).WholeWords (EltTy.packing .bf16) := by decide
  exact h (peer c t.val)

/-- The table with its side condition. -/
def adm (c : Dev nD) : (pcfg0 (F := F)).Adm := ⟨tbl c, ok_tbl c⟩

theorem idx1 (c : Dev nD) (t : Fin 16) : (win0 (F := F) (adm c) (1 : Fin 3)).index t = ![0, (peer c t.val).val] := map1_pnt c t

theorem idx0 (t : Fin 16) : (win0 (F := F) (adm c) (0 : Fin 3)).index t = ![0, 0] := rfl
theorem idx2 (t : Fin 16) : (win0 (F := F) (adm c) (2 : Fin 3)).index t = ![0, 0] := rfl

theorem fetch_0 (t : Fin 16) : (win0 (F := F) (adm c) (0 : Fin 3)).fetch t = decide (t.val = 0) := by
  unfold Pipeline.Window.fetch
  have h : ¬ ∃ h : 0 < t.val, (win0 (F := F) (adm c) (0 : Fin 3)).index t ≠ (win0 (F := F) (adm c) (0 : Fin 3)).index ⟨t.val - 1, by have := t.isLt; show t.val - 1 < 16; omega⟩ := by
    rintro ⟨_, h⟩; exact h rfl
  rw [decide_eq_false h, Bool.or_false]; rfl
theorem fetch_1 (t : Fin 16) : (win0 (F := F) (adm c) (1 : Fin 3)).fetch t = true := by
  unfold Pipeline.Window.fetch
  by_cases h : t.val = 0
  · simp [h]
  · have hne : (win0 (F := F) (adm c) (1 : Fin 3)).index t ≠ (win0 (F := F) (adm c) (1 : Fin 3)).index ⟨t.val - 1, by have := t.isLt; show t.val - 1 < 16; omega⟩ := by
      intro e
      have e1 := (idx1 (F := F) c t).symm.trans (e.trans (idx1 (F := F) c ⟨t.val - 1, by have := t.isLt; omega⟩))
      have e' := congrFun e1 1
      have e'' : (c.val + t.val) % 16 = (c.val + (t.val - 1)) % 16 := e'
      omega
    simp only [Bool.and_eq_true, Bool.or_eq_true, decide_eq_true_eq]
    exact ⟨rfl, .inr ⟨Nat.pos_of_ne_zero h, hne⟩⟩
theorem fetch_2 (t : Fin 16) : (win0 (F := F) (adm c) (2 : Fin 3)).fetch t = false := rfl
theorem flush_2 (t : Fin 16) : (win0 (F := F) (adm c) (2 : Fin 3)).flush t = decide (t.val = 15) := by
  unfold Pipeline.Window.flush
  have h : ¬ ∃ h : t.val + 1 < grid0.N, (win0 (F := F) (adm c) (2 : Fin 3)).index ⟨t.val + 1, h⟩ ≠ (win0 (F := F) (adm c) (2 : Fin 3)).index t := by
    rintro ⟨_, h⟩; exact h rfl
  rw [decide_eq_false h, Bool.or_false]
  show decide (t.val + 1 = grid0.N) = _
  congr 1
  rw [show grid0.N = 16 from N_0, eq_iff_iff]; omega
theorem idle_2 (t : Fin 16) : (cfg0 (F := F) (adm c)).idle (2 : Fin 3) ((cfg0 (F := F) (adm c)).grid.coords t) = !decide (t.val = 15) := by
  have h : ∀ t : Fin 16, idle0 2 (grid0.coords t) = !decide (t.val = 15) := by decide
  exact h t

end Cert.KernelIdeal.Exchange
-- ==== Proof.Data.lean ====
/-
  Data: what the pipeline around the kernel holds at each grid point — the staging buffers' contents, what the device still owes and
  the invariant between points.
-/
module

public import proofs.«01_k».proof.Proof.Finish
public import proofs.«01_k».proof.Proof.Table

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The table, held. -/
def tblHeld (c : Dev nD) : sProp 𝕄 := ((c : Thread nD τ).loc main_v5) ↦{fullShare} tbl (F := F) c 0

/-- Scratch buffer 0 (the device's own rows), at some contents. -/
def xbAny (c : Dev nD) : sProp 𝕄 :=
  iprop(∃ f : Buf (Elt F) ((c : Thread nD τ).loc cc0_scratch0), ((c : Thread nD τ).loc cc0_scratch0) ↦{fullShare} f)
def sndWhole (c : Dev nD) : sProp 𝕄 :=
  iprop(∃ f : Buf (Elt F) ((c : Thread nD τ).loc cc0_scratch1), ((c : Thread nD τ).loc cc0_scratch1) ↦{fullShare} f)
def rcvWhole (c : Dev nD) : sProp 𝕄 :=
  iprop(∃ f : Buf (Elt F) ((c : Thread nD τ).loc cc0_scratch2), ((c : Thread nD τ).loc cc0_scratch2) ↦{fullShare} f)

/-- Before the first point: nothing signalled. -/
def first : sProp 𝕄 :=
  iprop(known m K c ∗ tblHeld c ∗ xbAny c ∗ bigSep Finset.univ (base c) ∗ bigSep Finset.univ (hslot c 0)
    ∗ atPos ER (barCell c) 0 ∅ 0 ∗ cred (tallyAt (barCell c) () 15))

/-- Before point `n`, from the second on. -/
def middle (n : ℕ) : sProp 𝕄 :=
  iprop(known m K c ∗ tblHeld c ∗ (((c : Thread nD τ).loc cc0_scratch0) ↦{fullShare} Xb m c) ∗ bigSep Finset.univ (base c)
    ∗ bigSep Finset.univ (slot m c n) ∗ atPos ER (barCell c) (0 + 1) ∅ 0)

/-- After the last. -/
def final : sProp 𝕄 :=
  iprop(known m K c ∗ tblHeld c ∗ xbAny c ∗ sndWhole c ∗ rcvWhole c ∗ Pipeline.ownSems0 osem c ∗ atPos ER (barCell c) (0 + 1) ∅ 0)

/-- The invariant before point `n`. -/
def inv (n : ℕ) : sProp 𝕄 := iprop(∃ K, if n = 0 then first m K c else if n < 16 then middle m K c n else final m K c)

theorem inv_zero : inv m c 0 = iprop(∃ K, first m K c) := rfl
theorem inv_mid {n : ℕ} (h0 : n ≠ 0) (h : n < 16) : inv m c n = iprop(∃ K, middle m K c n) := by unfold inv; simp only [if_neg h0, if_pos h]
theorem inv_end : inv m c 16 = iprop(∃ K, final m K c) := rfl

/-- The table of every device, for the one call. -/
abbrev adms (c : Dev nD) (p : Fin 1) : (pcfgs (F := F) p).Adm := adm c

/-- The proof data of the pipeline on device `c`. -/
def dat (c : Dev nD) : Pipeline.Dat τ (Elt F) Unit ℕ UU ℕ (cfg0 (F := F) (adm c)) c where
  A w := m ((((cfg0 (F := F) (adm c)).win w).arr.view.loc (c : Thread nD τ)))
  after w t := match w with
    | ⟨0, _⟩ => Xb m c
    | ⟨1, _⟩ => Wb m c (peer c t.val)
    | ⟨2, _⟩ => Ov m c
  Φ t := inv m c t.val
  q _ := fullShare
  owed t := owedAt c t.val

abbrev dats (p : Fin 1) (c : Dev nD) : Pipeline.Dat τ (Elt F) Unit ℕ UU ℕ (Pipeline.pinD (pcfgs (F := F)) adms c p) c := dat m c

theorem fetched_0 (t : Fin 16) (d) : (dat m c).fetched (0 : Fin 3) t d = Xb m c := by
  funext y
  show m ((c : Thread nD τ).loc main_arg0) _ = m ((c : Thread nD τ).loc main_arg0) _
  congr 1
  funext a
  match a with
  | 0 => exact Fin.ext (show 0 * 256 + 1 * (y 0).val = (y 0).val by omega)
  | 1 => exact Fin.ext (show 0 * 4096 + 1 * (y 1).val = (y 1).val by omega)

theorem fetched_1 (t : Fin 16) (d) : (dat m c).fetched (1 : Fin 3) t d = Wb m c (peer c t.val) := by
  funext y
  have e := idx1 (F := F) c t
  show m ((c : Thread nD τ).loc main_arg1) _ = m ((c : Thread nD τ).loc main_arg1) _
  congr 1
  funext a
  match a with
  | 0 => exact Fin.ext (show (win0 (F := F) (adm c) (1 : Fin 3)).index t 0 * 4096 + 1 * (y 0).val = (y 0).val by rw [e]; show 0 * 4096 + _ = _; omega)
  | 1 => exact Fin.ext (show (win0 (F := F) (adm c) (1 : Fin 3)).index t 1 * 512 + 1 * (y 1).val = 512 * (peer c t.val).val + (y 1).val by
      rw [e]; show (peer c t.val).val * 512 + _ = _; omega)

theorem before_0 (t : Fin 16) (d) : (dat m c).before (0 : Fin 3) t d = Xb m c := by
  unfold Pipeline.Dat.before
  by_cases h : t.val = 0
  · rw [if_pos (by rw [fetch_0]; exact decide_eq_true h)]; exact fetched_0 m c t d
  · rw [if_neg (by rw [fetch_0]; simpa using h), if_neg h]
    rfl
theorem before_1 (t : Fin 16) (d) : (dat m c).before (1 : Fin 3) t d = Wb m c (peer c t.val) := by
  unfold Pipeline.Dat.before
  rw [if_pos (fetch_1 c t)]; exact fetched_1 m c t d

end Cert.KernelIdeal.Exchange
-- ==== Proof.Middle.lean ====
/-
  Middle: the kernel at a grid point that is neither the first nor the last — one product, stored and sent.
-/
module

public import proofs.«01_k».proof.Proof.Data

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem off_zero : (![0, 0] : Fin 2 → ℕ) = fun _ => 0 := by decide

/-- A load of all of a buffer reads what it holds. -/
theorem read_all {sp : Space} {s : Shape} {e : EltTy} (M : Memref sig .tc sp s e) {off : Fin s.rank → ℕ} (h : off = fun _ => 0)
    (hb : ∀ a, off a + s.size a ≤ s.size a) (f : M.view.ref.ty.Contents (Elt F)) :
    (M.access (Rect.unit (s := s) off s.size hb)).read (Elt F) f = M.view.read (Elt F) f := by
  subst h
  funext y
  have e : (Rect.unit (s := s) (fun _ => 0) s.size hb).emb y = y := by
    funext a; exact Fin.ext (show 0 + 1 * (y a).val = (y a).val by omega)
  exact congrArg (M.view.read (Elt F) f) e

/-- The semaphore of index `i` in each of the two arrays. -/
theorem sem_send {off : Fin 1 → ℕ} {i : Fin 16} (h : off = ![i.val]) (hb : ∀ a, off a + S1.size a ≤ S16.size a) (hs) :
    ((cc0_scratch3.slice (Rect.unit (s := S16) off S1.size hb)).squeeze S_ hs).sem = sendSem i := by
  subst h; revert i; decide
theorem sem_recv {off : Fin 1 → ℕ} {i : Fin 16} (h : off = ![i.val]) (hb : ∀ a, off a + S1.size a ≤ S16.size a) (hs) :
    ((cc0_scratch4.slice (Rect.unit (s := S16) off S1.size hb)).squeeze S_ hs).sem = recvSem i := by
  subst h; revert i; decide

/-- The kernel at point `t`, on the staging buffers given. -/
abbrev body (F : FTy → Type) [FloatOps F] (t : Fin 16) (M : Memref sig .tc .vmem S4096x512 .bf16) (hM : M.IsWhole) : Pg F :=
  cc0_body (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4

/-- The columns, in their staging buffer. -/
def cols (M : Memref sig .tc .vmem S4096x512 .bf16) (t : ℕ) : sProp 𝕄 := owns (c : Thread nD τ) M fullShare (Wb m c (peer c t))

theorem run_mid (t : Fin 16) (h0 : t.val ≠ 0) (h15 : t.val ≠ 15) (M : Memref sig .tc .vmem S4096x512 .bf16) (hM : M.IsWhole) (Q : PUnit → sProp 𝕄) :
    iprop(middle m K c t.val ∗ owing c (owedAt c t.val) ∗ cols m c M t.val)
      ⊢ iprop(((middle m K c (t.val + 1) ∗ owing c (owedAt c (t.val + 1)) ∗ cols m c M t.val) -∗ Q ⟨⟩)
          -∗ runs c (body F t M hM) Q) := by
  have n1 : ¬ k0_cond1 (pnt t) = 1#1 := fun h => h0 ((cond1_iff t).mp h)
  have n2 : ¬ Scalar.cmpi .ne (Scalar.extui (Scalar.cmpi .eq (BitVec.ofNat 32 (pnt t 0).val) 0#32) : BitVec 32) 0#32 = 1#1 := fun h => h0 ((cond2_iff t).mp h)
  have n3 : ¬ k0_cond3 (pnt t) = 1#1 := fun h => h0 ((cond3_iff t).mp h)
  have n4 : k0_cond4 (pnt t) = 1#1 := (cond4_iff t).mpr h0
  have n5 : ¬ k0_cond5 (pnt t) = 1#1 := fun h => h15 ((cond5_iff t).mp h)
  unfold body
  simp only [cc0_body_eq_skeleton]; unfold cc0_body_skel
  simp only [smemLoad, smemLoadElt, Prog.lift, Prog.bind_op, Prog.bind_ret, Prog.pure_eq_ret, dif_neg n1, dif_neg n2, dif_neg n3, dif_pos n4, dif_neg n5]
  unfold middle tblHeld cols owns
  iintro ⟨⟨#Hkn, Ht, Hx, Hb, Hs, Hat⟩, HO, ⟨%g, %hg, Hw⟩⟩ Hk
  iapply (wp_load_rect 𝒱₀ (c : Thread nD τ) none Set.univ (m := tblM) (r := Rect.unit (s := S1) ![0] S1.size inb_S1_S1_0) (S := Finset.univ) (f := tbl (F := F) c 0) (Finset.subset_univ _)) $$ Ht; iintro Ht
  iapply (wp_assume 𝒱₀ (c : Thread nD τ) none Set.univ (chk c t))
  iapply (wp_load_rect 𝒱₀ (c : Thread nD τ) none Set.univ (m := xbM) (r := Rect.unit (s := S256x4096) ![0, 0] S256x4096.size inb_S256x4096_S256x4096_0_0) (S := Finset.univ) (f := Xb m c) (Finset.subset_univ _)) $$ Hx; iintro Hx
  iapply (wp_load_rect 𝒱₀ (c : Thread nD τ) none Set.univ (m := M) (r := Rect.unit (s := S4096x512) ![0, 0] S4096x512.size inb_S4096x512_S4096x512_0_0) (S := M.view.set) (f := g) (by rw [Memref.IsWhole.set_eq_univ hM]; exact Finset.subset_univ _)) $$ Hw; iintro Hw
  iapply (step_send m K c (Nat.pos_of_ne_zero h0) t.isLt (Fin.ext (dev16_eq c t)) (off2_eq c t) (off5_eq c) (off6_eq c t)
    (by rw [read_all xbM off_zero, read_all M off_zero]; unfold Yb; rw [← hg]; rfl) (sem_send (off3_eq c t) _ _) (sem_recv (off4_eq c) _ _)) $$ [HO Hs]
  · isplitr; · iexact Hkn
    isplitl [HO] <;> iassumption
  iintro ⟨HO, Hs⟩
  iapply (Entails.of_eq (wp_ret _ _ _ _ _).symm)
  imodintro
  iapply Hk
  isplitr [HO Hw]
  · isplitr; · iexact Hkn
    isplitl [Ht]; · iexact Ht
    isplitl [Hx]; · iexact Hx
    isplitl [Hb]; · iexact Hb
    isplitl [Hs] <;> iassumption
  isplitl [HO]; · iexact HO
  iexists g
  isplitr; · ipureintro; exact hg
  iexact Hw

end Cert.KernelIdeal.Exchange
-- ==== Proof.First.lean ====
/-
  First: the kernel at the first grid point — the handshake, the copy of the device's rows, and its own block.
-/
module

public import proofs.«01_k».proof.Proof.Middle
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem pay1_eq (v : Vec F S256x4096 .bf16) : k0_pay1 (F := F) v = v := by
  unfold k0_pay1
  simp only [shapeCast_self]

/-- The rows, in their staging buffer. -/
def own : sProp 𝕄 := owns (c : Thread nD τ) (Memref.whole cc0_stg0_0) fullShare (Xb m c)

set_option maxHeartbeats 1000000 in
theorem run_first (t : Fin 16) (h0 : t.val = 0) (M : Memref sig .tc .vmem S4096x512 .bf16) (hM : M.IsWhole) (Q : PUnit → sProp 𝕄) :
    iprop(first m K c ∗ owing c (owedAt c 0) ∗ own m c ∗ cols m c M 0)
      ⊢ iprop(((middle m K c 1 ∗ owing c (owedAt c 1) ∗ own m c ∗ cols m c M 0) -∗ Q ⟨⟩)
          -∗ runs c (body F t M hM) Q) := by
  have n1 : k0_cond1 (pnt t) = 1#1 := (cond1_iff t).mpr h0
  have n2 : Scalar.cmpi .ne (Scalar.extui (Scalar.cmpi .eq (BitVec.ofNat 32 (pnt t 0).val) 0#32) : BitVec 32) 0#32 = 1#1 := (cond2_iff t).mpr h0
  have n3 : k0_cond3 (pnt t) = 1#1 := (cond3_iff t).mpr h0
  have n4 : ¬ k0_cond4 (pnt t) = 1#1 := fun h => (cond4_iff t).mp h h0
  have n5 : ¬ k0_cond5 (pnt t) = 1#1 := fun h => by have := (cond5_iff t).mp h; omega
  have hp : peer c 0 = c := by rw [← dist_self c, peer_dist]
  unfold body
  simp only [cc0_body_eq_skeleton]; unfold cc0_body_skel
  simp only [k0_part1_eq_skeleton, k0_part1_skel, semSignalWord, semWaitWord, smemLoad, smemLoadElt, Prog.lift, Prog.bind_op, Prog.bind_ret, Prog.pure_eq_ret,
    dif_pos n1, dif_pos n2, dif_pos n3, dif_neg n4, dif_neg n5]
  unfold first tblHeld cols own xbAny owns
  iintro ⟨⟨#Hkn, Ht, ⟨%x0, Hx⟩, Hb, Hs, Hat, Hc⟩, HO, ⟨%f, %hf, Hf⟩, ⟨%g, %hg, Hw⟩⟩ Hk
  iapply (wp_load_rect 𝒱₀ (c : Thread nD τ) none Set.univ (m := tblM) (r := Rect.unit (s := S1) ![0] S1.size inb_S1_S1_0) (S := Finset.univ) (f := tbl (F := F) c 0) (Finset.subset_univ _)) $$ Ht; iintro Ht
  iapply (wp_assume 𝒱₀ (c : Thread nD τ) none Set.univ (chk c t))
  ihave HO := (Entails.of_eq (congrArg (fun O => (owing c O : sProp 𝕄)) (owedAt_zero c))) $$ HO
  ihave Hs : shake c 0 $$ [HO Hs]
  · unfold shake; isplitl [HO] <;> iassumption
  iapply (step_signal m K c (d := 0) (by decide) (Fin.ext (dev1_eq c))) $$ [Hs]
  · isplitr; · iexact Hkn
    iexact Hs
  iintro Hs
  iapply (step_signal m K c (d := 1) (by decide) (Fin.ext (dev2_eq c))) $$ [Hs]
  · isplitr; · iexact Hkn
    iexact Hs
  iintro Hs
  iapply (step_signal m K c (d := 2) (by decide) (Fin.ext (dev3_eq c))) $$ [Hs]
  · isplitr; · iexact Hkn
    iexact Hs
  iintro Hs
  iapply (step_signal m K c (d := 3) (by decide) (Fin.ext (dev4_eq c))) $$ [Hs]
  · isplitr; · iexact Hkn
    iexact Hs
  iintro Hs
  iapply (step_signal m K c (d := 4) (by decide) (Fin.ext (dev5_eq c))) $$ [Hs]
  · isplitr; · iexact Hkn
    iexact Hs
  iintro Hs
  iapply (step_signal m K c (d := 5) (by decide) (Fin.ext (dev6_eq c))) $$ [Hs]
  · isplitr; · iexact Hkn
    iexact Hs
  iintro Hs
  iapply (step_signal m K c (d := 6) (by decide) (Fin.ext (dev7_eq c))) $$ [Hs]
  · isplitr; · iexact Hkn
    iexact Hs
  iintro Hs
  iapply (step_signal m K c (d := 7) (by decide) (Fin.ext (dev8_eq c))) $$ [Hs]
  · isplitr; · iexact Hkn
    iexact Hs
  iintro Hs
  iapply (step_signal m K c (d := 8) (by decide) (Fin.ext (dev9_eq c))) $$ [Hs]
  · isplitr; · iexact Hkn
    iexact Hs
  iintro Hs
  iapply (step_signal m K c (d := 9) (by decide) (Fin.ext (dev10_eq c))) $$ [Hs]
  · isplitr; · iexact Hkn
    iexact Hs
  iintro Hs
  iapply (step_signal m K c (d := 10) (by decide) (Fin.ext (dev11_eq c))) $$ [Hs]
  · isplitr; · iexact Hkn
    iexact Hs
  iintro Hs
  iapply (step_signal m K c (d := 11) (by decide) (Fin.ext (dev12_eq c))) $$ [Hs]
  · isplitr; · iexact Hkn
    iexact Hs
  iintro Hs
  iapply (step_signal m K c (d := 12) (by decide) (Fin.ext (dev13_eq c))) $$ [Hs]
  · isplitr; · iexact Hkn
    iexact Hs
  iintro Hs
  iapply (step_signal m K c (d := 13) (by decide) (Fin.ext (dev14_eq c))) $$ [Hs]
  · isplitr; · iexact Hkn
    iexact Hs
  iintro Hs
  iapply (step_signal m K c (d := 14) (by decide) (Fin.ext (dev15_eq c))) $$ [Hs]
  · isplitr; · iexact Hkn
    iexact Hs
  iintro Hs
  iapply (step_barrier m K c) $$ [Hs Hat Hc]
  · isplitr; · iexact Hkn
    isplitl [Hs]; · iexact Hs
    isplitl [Hat] <;> iassumption
  iintro ⟨HO, Hat, Hs⟩
  iapply (wp_load_rect 𝒱₀ (c : Thread nD τ) none Set.univ (m := Memref.whole cc0_stg0_0) (r := Rect.unit (s := S256x4096) ![0, 0] S256x4096.size inb_S256x4096_S256x4096_0_0) (S := (Memref.whole cc0_stg0_0).view.set) (f := f) (by rw [Memref.IsWhole.set_eq_univ (Memref.isWhole_whole _)]; exact Finset.subset_univ _)) $$ Hf; iintro Hf
  iapply (wp_load_rect 𝒱₀ (c : Thread nD τ) none Set.univ (m := xbM) (r := Rect.unit (s := S256x4096) ![0, 0] S256x4096.size inb_S256x4096_S256x4096_0_0) (S := Finset.univ) (f := x0) (Finset.subset_univ _)) $$ Hx; iintro Hx
  iapply (wp_store 𝒱₀ (c : Thread nD τ) none Set.univ (m := xbM) (r := Rect.unit (s := S256x4096) ![0, 0] S256x4096.size inb_S256x4096_S256x4096_0_0) (Mk := Finset.univ) (S := Finset.univ) (f := x0) (Finset.subset_univ _)) $$ Hx; iintro Hx
  have ex : (xbM.access (Rect.unit (s := S256x4096) ![0, 0] S256x4096.size inb_S256x4096_S256x4096_0_0)).write (Elt F) x0
      (k0_pay1 (((Memref.whole cc0_stg0_0).access (Rect.unit (s := S256x4096) ![0, 0] S256x4096.size inb_S256x4096_S256x4096_0_0)).read (Elt F) f)) Finset.univ = Xb m c := by
    have er := (read_all (s := S256x4096) (e := .bf16) (Memref.whole cc0_stg0_0) off_zero inb_S256x4096_S256x4096_0_0 f).trans hf
    rw [pay1_eq, er]
    exact Memref.write_access_unit_zero_univ (Elt F) cc0_scratch0 off_zero _ _ _
  ihave Hx := (Entails.of_eq (congrArg (fun f => (((c : Thread nD τ).loc cc0_scratch0) ↦{fullShare} f : sProp 𝕄)) ex)) $$ Hx
  iapply (wp_load_rect 𝒱₀ (c : Thread nD τ) none Set.univ (m := xbM) (r := Rect.unit (s := S256x4096) ![0, 0] S256x4096.size inb_S256x4096_S256x4096_0_0) (S := Finset.univ) (f := Xb m c) (Finset.subset_univ _)) $$ Hx; iintro Hx
  iapply (wp_load_rect 𝒱₀ (c : Thread nD τ) none Set.univ (m := M) (r := Rect.unit (s := S4096x512) ![0, 0] S4096x512.size inb_S4096x512_S4096x512_0_0) (S := M.view.set) (f := g) (by rw [Memref.IsWhole.set_eq_univ hM]; exact Finset.subset_univ _)) $$ Hw; iintro Hw
  iapply (step_own m c (off1_eq c)
    (by rw [read_all xbM off_zero, read_all M off_zero]; unfold Yb; rw [hp] at hg; rw [← hg]; rfl)) $$ Hs
  iintro Hs
  iapply (Entails.of_eq (wp_ret _ _ _ _ _).symm)
  imodintro
  iapply Hk
  isplitr [HO Hf Hw]
  · unfold middle tblHeld
    isplitr; · iexact Hkn
    isplitl [Ht]; · iexact Ht
    isplitl [Hx]; · iexact Hx
    isplitl [Hb]; · iexact Hb
    isplitl [Hs] <;> iassumption
  isplitl [HO]; · iexact HO
  isplitl [Hf]
  · iexists f
    isplitr; · ipureintro; exact hf
    iexact Hf
  iexists g
  isplitr; · ipureintro; exact hg
  iexact Hw

end Cert.KernelIdeal.Exchange
-- ==== Proof.Waits.lean ====
/-
  Waits: the sixteen pairs of waits at the last grid point, each skipped on the device's own row.
-/
module

public import proofs.«01_k».proof.Proof.Middle

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- A row block of any such buffer counts for the same. -/
theorem credit {sp : Space} (M : Memref sig .tc sp S4096x512 .bf16) (off : Fin 2 → ℕ) (hb : ∀ a, off a + S256x512.size a ≤ S4096x512.size a) (h) :
    (M.slice (Rect.unit (s := S4096x512) off S256x512.size hb) h).view.dmaCredit = N := rfl

abbrev at16 (n : ℕ) (h : n < 16 := by decide) : Fin 16 := ⟨n, h⟩

set_option pp.maxSteps 400 in
/-- The first ten. -/
theorem waits_low (t : Fin 16) (M : Memref sig .tc .vmem S4096x512 .bf16) (hM : M.IsWhole) (Q : PUnit → sProp 𝕄) :
    iprop(known m K c ∗ waited m c 0)
      ⊢ iprop((waited m c 10 -∗ Q ⟨⟩) -∗ runs c (k0_part2 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (word c)) Q) := by
  simp only [k0_part2_eq_skeleton]; unfold k0_part2_skel
  simp only [Prog.lift, Prog.bind_op, Prog.bind_ret, Prog.pure_eq_ret]
  iintro ⟨#Hkn, HW⟩ Hk
  iapply (step_wait m K c (n := 0) (by omega) (skip_iff c ⟨0, by decide⟩)
    (sem_send (i := ⟨0, by decide⟩) (off := ![0]) rfl _ _) (sem_recv (i := ⟨0, by decide⟩) (off := ![0]) rfl _ _) (credit _ _ _ _) (credit _ _ _ _)) $$ [HW]
  · isplitr; · iexact Hkn
    iexact HW
  iintro HW
  iapply (step_wait m K c (n := 1) (by omega) (skip_iff c ⟨1, by decide⟩)
    (sem_send (i := ⟨1, by decide⟩) (off := ![1]) rfl _ _) (sem_recv (i := ⟨1, by decide⟩) (off := ![1]) rfl _ _) (credit _ _ _ _) (credit _ _ _ _)) $$ [HW]
  · isplitr; · iexact Hkn
    iexact HW
  iintro HW
  iapply (step_wait m K c (n := 2) (by omega) (skip_iff c ⟨2, by decide⟩)
    (sem_send (i := ⟨2, by decide⟩) (off := ![2]) rfl _ _) (sem_recv (i := ⟨2, by decide⟩) (off := ![2]) rfl _ _) (credit _ _ _ _) (credit _ _ _ _)) $$ [HW]
  · isplitr; · iexact Hkn
    iexact HW
  iintro HW
  iapply (step_wait m K c (n := 3) (by omega) (skip_iff c ⟨3, by decide⟩)
    (sem_send (i := ⟨3, by decide⟩) (off := ![3]) rfl _ _) (sem_recv (i := ⟨3, by decide⟩) (off := ![3]) rfl _ _) (credit _ _ _ _) (credit _ _ _ _)) $$ [HW]
  · isplitr; · iexact Hkn
    iexact HW
  iintro HW
  iapply (step_wait m K c (n := 4) (by omega) (skip_iff c ⟨4, by decide⟩)
    (sem_send (i := ⟨4, by decide⟩) (off := ![4]) rfl _ _) (sem_recv (i := ⟨4, by decide⟩) (off := ![4]) rfl _ _) (credit _ _ _ _) (credit _ _ _ _)) $$ [HW]
  · isplitr; · iexact Hkn
    iexact HW
  iintro HW
  iapply (step_wait m K c (n := 5) (by omega) (skip_iff c ⟨5, by decide⟩)
    (sem_send (i := ⟨5, by decide⟩) (off := ![5]) rfl _ _) (sem_recv (i := ⟨5, by decide⟩) (off := ![5]) rfl _ _) (credit _ _ _ _) (credit _ _ _ _)) $$ [HW]
  · isplitr; · iexact Hkn
    iexact HW
  iintro HW
  iapply (step_wait m K c (n := 6) (by omega) (skip_iff c ⟨6, by decide⟩)
    (sem_send (i := ⟨6, by decide⟩) (off := ![6]) rfl _ _) (sem_recv (i := ⟨6, by decide⟩) (off := ![6]) rfl _ _) (credit _ _ _ _) (credit _ _ _ _)) $$ [HW]
  · isplitr; · iexact Hkn
    iexact HW
  iintro HW
  iapply (step_wait m K c (n := 7) (by omega) (skip_iff c ⟨7, by decide⟩)
    (sem_send (i := ⟨7, by decide⟩) (off := ![7]) rfl _ _) (sem_recv (i := ⟨7, by decide⟩) (off := ![7]) rfl _ _) (credit _ _ _ _) (credit _ _ _ _)) $$ [HW]
  · isplitr; · iexact Hkn
    iexact HW
  iintro HW
  iapply (step_wait m K c (n := 8) (by omega) (skip_iff c ⟨8, by decide⟩)
    (sem_send (i := ⟨8, by decide⟩) (off := ![8]) rfl _ _) (sem_recv (i := ⟨8, by decide⟩) (off := ![8]) rfl _ _) (credit _ _ _ _) (credit _ _ _ _)) $$ [HW]
  · isplitr; · iexact Hkn
    iexact HW
  iintro HW
  iapply (step_wait m K c (n := 9) (by omega) (skip_iff c ⟨9, by decide⟩)
    (sem_send (i := ⟨9, by decide⟩) (off := ![9]) rfl _ _) (sem_recv (i := ⟨9, by decide⟩) (off := ![9]) rfl _ _) (credit _ _ _ _) (credit _ _ _ _)) $$ [HW]
  · isplitr; · iexact Hkn
    iexact HW
  iintro HW
  iapply (Entails.of_eq (wp_ret _ _ _ _ _).symm)
  imodintro
  iapply Hk; iexact HW

/-- The last six, the whole received, and the first row block of the result. -/
theorem waits_high (t : Fin 16) (M : Memref sig .tc .vmem S4096x512 .bf16) (hM : M.IsWhole) (g : Buf (Elt F) ((c : Thread nD τ).loc cc0_stg2_0))
    (Q : (Σ' (_ : FVec F S256x512 .f32), F .f32) → sProp 𝕄) :
    iprop(known m K c ∗ waited m c 10 ∗ (((c : Thread nD τ).loc cc0_stg2_0) ↦{fullShare} g))
      ⊢ iprop(((owing c 0 ∗ Pipeline.ownSems0 osem c ∗ sndWhole c ∗ placed m c g 1) -∗ Q ⟨k0_pay8 (Yb m (at16 1) c), Scalar.ofBits .f32 0x00000000#32⟩)
          -∗ runs c (k0_part3 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (word c)) Q) := by
  simp only [k0_part3_eq_skeleton]; unfold k0_part3_skel
  simp only [Prog.lift, Prog.bind_op, Prog.bind_ret, Prog.pure_eq_ret]
  iintro ⟨#Hkn, HW, Ho⟩ Hk
  iapply (step_wait m K c (n := 10) (by omega) (skip_iff c ⟨10, by decide⟩)
    (sem_send (i := ⟨10, by decide⟩) (off := ![10]) rfl _ _) (sem_recv (i := ⟨10, by decide⟩) (off := ![10]) rfl _ _) (credit _ _ _ _) (credit _ _ _ _)) $$ [HW]
  · isplitr; · iexact Hkn
    iexact HW
  iintro HW
  iapply (step_wait m K c (n := 11) (by omega) (skip_iff c ⟨11, by decide⟩)
    (sem_send (i := ⟨11, by decide⟩) (off := ![11]) rfl _ _) (sem_recv (i := ⟨11, by decide⟩) (off := ![11]) rfl _ _) (credit _ _ _ _) (credit _ _ _ _)) $$ [HW]
  · isplitr; · iexact Hkn
    iexact HW
  iintro HW
  iapply (step_wait m K c (n := 12) (by omega) (skip_iff c ⟨12, by decide⟩)
    (sem_send (i := ⟨12, by decide⟩) (off := ![12]) rfl _ _) (sem_recv (i := ⟨12, by decide⟩) (off := ![12]) rfl _ _) (credit _ _ _ _) (credit _ _ _ _)) $$ [HW]
  · isplitr; · iexact Hkn
    iexact HW
  iintro HW
  iapply (step_wait m K c (n := 13) (by omega) (skip_iff c ⟨13, by decide⟩)
    (sem_send (i := ⟨13, by decide⟩) (off := ![13]) rfl _ _) (sem_recv (i := ⟨13, by decide⟩) (off := ![13]) rfl _ _) (credit _ _ _ _) (credit _ _ _ _)) $$ [HW]
  · isplitr; · iexact Hkn
    iexact HW
  iintro HW
  iapply (step_wait m K c (n := 14) (by omega) (skip_iff c ⟨14, by decide⟩)
    (sem_send (i := ⟨14, by decide⟩) (off := ![14]) rfl _ _) (sem_recv (i := ⟨14, by decide⟩) (off := ![14]) rfl _ _) (credit _ _ _ _) (credit _ _ _ _)) $$ [HW]
  · isplitr; · iexact Hkn
    iexact HW
  iintro HW
  iapply (step_wait m K c (n := 15) (by omega) (skip_iff c ⟨15, by decide⟩)
    (sem_send (i := ⟨15, by decide⟩) (off := ![15]) rfl _ _) (sem_recv (i := ⟨15, by decide⟩) (off := ![15]) rfl _ _) (credit _ _ _ _) (credit _ _ _ _)) $$ [HW]
  · isplitr; · iexact Hkn
    iexact HW
  iintro HW
  unfold waited
  icases HW with ⟨HO, HW⟩
  unfold known
  icases Hkn with ⟨#HR, -⟩
  imod (close_all m K c) $$ [HW] with ⟨Hsem, Hsnd, Hrcv⟩
  · isplitr; · iexact HR
    iexact HW
  ihave HP : placed m c g 0 $$ [Hrcv Ho]
  · unfold placed
    isplitl [Hrcv]; · iexact Hrcv
    rewrite [fill_zero]
    iexact Ho
  iapply (step_read m c g (n := 0) (by decide) rfl) $$ HP; iintro HP
  iapply (step_write m c g (n := 0) (by decide) rfl rfl) $$ HP; iintro HP
  iapply (step_read m c g (n := 1) (by decide) rfl) $$ HP; iintro HP
  iapply (Entails.of_eq (wp_ret _ _ _ _ _).symm)
  imodintro
  iapply Hk
  isplitl [HO]; · iexact HO
  isplitl [Hsem]; · iexact Hsem
  isplitl [Hsnd]; · unfold sndWhole; iexact Hsnd
  iexact HP

/-- Row blocks 1 to 3. -/
theorem part4_run (t : Fin 16) (M : Memref sig .tc .vmem S4096x512 .bf16) (hM : M.IsWhole) (g : Buf (Elt F) ((c : Thread nD τ).loc cc0_stg2_0))
    (Q : (Σ' (_ : FVec F S256x512 .f32), FVec F S256x512 .f32) → sProp 𝕄) :
    placed m c g 1
      ⊢ iprop((placed m c g 4 -∗ Q ⟨k0_pay12 (Yb m (at16 4) c), k0_pay13 (Yb m (at16 4) c)⟩) -∗ runs c (k0_part4 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (k0_pay8 (Yb m (at16 1) c)) (Scalar.ofBits .f32 0x00000000#32)) Q) := by
  simp only [k0_part4_eq_skeleton]; unfold k0_part4_skel
  simp only [Prog.lift, Prog.bind_op, Prog.bind_ret, Prog.pure_eq_ret]
  iintro HP Hk
  iapply (step_write m c g (n := 1) (by decide) rfl rfl) $$ HP; iintro HP
  iapply (step_read m c g (n := 2) (by decide) rfl) $$ HP; iintro HP
  iapply (step_write m c g (n := 2) (by decide) rfl rfl) $$ HP; iintro HP
  iapply (step_read m c g (n := 3) (by decide) rfl) $$ HP; iintro HP
  iapply (step_write m c g (n := 3) (by decide) rfl rfl) $$ HP; iintro HP
  iapply (step_read m c g (n := 4) (by decide) rfl) $$ HP; iintro HP
  iapply (Entails.of_eq (wp_ret _ _ _ _ _).symm)
  imodintro
  iapply Hk; iexact HP

/-- Row blocks 4 to 6. -/
theorem part5_run (t : Fin 16) (M : Memref sig .tc .vmem S4096x512 .bf16) (hM : M.IsWhole) (g : Buf (Elt F) ((c : Thread nD τ).loc cc0_stg2_0))
    (Q : (Σ' (_ : FVec F S256x512 .f32), FVec F S256x512 .f32) → sProp 𝕄) :
    placed m c g 4
      ⊢ iprop((placed m c g 7 -∗ Q ⟨k0_pay17 (Yb m (at16 7) c), k0_pay18 (Yb m (at16 7) c)⟩) -∗ runs c (k0_part5 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (k0_pay12 (Yb m (at16 4) c)) (k0_pay13 (Yb m (at16 4) c))) Q) := by
  simp only [k0_part5_eq_skeleton]; unfold k0_part5_skel
  simp only [Prog.lift, Prog.bind_op, Prog.bind_ret, Prog.pure_eq_ret]
  iintro HP Hk
  iapply (step_write m c g (n := 4) (by decide) rfl rfl) $$ HP; iintro HP
  iapply (step_read m c g (n := 5) (by decide) rfl) $$ HP; iintro HP
  iapply (step_write m c g (n := 5) (by decide) rfl rfl) $$ HP; iintro HP
  iapply (step_read m c g (n := 6) (by decide) rfl) $$ HP; iintro HP
  iapply (step_write m c g (n := 6) (by decide) rfl rfl) $$ HP; iintro HP
  iapply (step_read m c g (n := 7) (by decide) rfl) $$ HP; iintro HP
  iapply (Entails.of_eq (wp_ret _ _ _ _ _).symm)
  imodintro
  iapply Hk; iexact HP

/-- Row blocks 7 to 9. -/
theorem part6_run (t : Fin 16) (M : Memref sig .tc .vmem S4096x512 .bf16) (hM : M.IsWhole) (g : Buf (Elt F) ((c : Thread nD τ).loc cc0_stg2_0))
    (Q : (Σ' (_ : FVec F S256x512 .f32), FVec F S256x512 .f32) → sProp 𝕄) :
    placed m c g 7
      ⊢ iprop((placed m c g 10 -∗ Q ⟨k0_pay22 (Yb m (at16 10) c), k0_pay23 (Yb m (at16 10) c)⟩) -∗ runs c (k0_part6 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (k0_pay17 (Yb m (at16 7) c)) (k0_pay18 (Yb m (at16 7) c))) Q) := by
  simp only [k0_part6_eq_skeleton]; unfold k0_part6_skel
  simp only [Prog.lift, Prog.bind_op, Prog.bind_ret, Prog.pure_eq_ret]
  iintro HP Hk
  iapply (step_write m c g (n := 7) (by decide) rfl rfl) $$ HP; iintro HP
  iapply (step_read m c g (n := 8) (by decide) rfl) $$ HP; iintro HP
  iapply (step_write m c g (n := 8) (by decide) rfl rfl) $$ HP; iintro HP
  iapply (step_read m c g (n := 9) (by decide) rfl) $$ HP; iintro HP
  iapply (step_write m c g (n := 9) (by decide) rfl rfl) $$ HP; iintro HP
  iapply (step_read m c g (n := 10) (by decide) rfl) $$ HP; iintro HP
  iapply (Entails.of_eq (wp_ret _ _ _ _ _).symm)
  imodintro
  iapply Hk; iexact HP

/-- Row blocks 10 to 12. -/
theorem part7_run (t : Fin 16) (M : Memref sig .tc .vmem S4096x512 .bf16) (hM : M.IsWhole) (g : Buf (Elt F) ((c : Thread nD τ).loc cc0_stg2_0))
    (Q : FVec F S256x512 .f32 → sProp 𝕄) :
    placed m c g 10
      ⊢ iprop((placed m c g 13 -∗ Q (k0_pay27 (Yb m (at16 13) c))) -∗ runs c (k0_part7 (F := F) (pnt t) (Memref.whole main_v5) (Memref.isWhole_whole _) (Memref.whole cc0_stg0_0) (Memref.isWhole_whole _) M hM
    (Memref.whole cc0_stg2_0) (Memref.isWhole_whole _) (Memref.whole cc0_scratch0) (Memref.isWhole_whole _) (Memref.whole cc0_scratch1)
    (Memref.isWhole_whole _) (Memref.whole cc0_scratch2) (Memref.isWhole_whole _) cc0_scratch3 cc0_scratch4 (k0_pay22 (Yb m (at16 10) c)) (k0_pay23 (Yb m (at16 10) c))) Q) := by
  simp only [k0_part7_eq_skeleton]; unfold k0_part7_skel
  simp only [Prog.lift, Prog.bind_op, Prog.bind_ret, Prog.pure_eq_ret]
  iintro HP Hk
  iapply (step_write m c g (n := 10) (by decide) rfl rfl) $$ HP; iintro HP
  iapply (step_read m c g (n := 11) (by decide) rfl) $$ HP; iintro HP
  iapply (step_write m c g (n := 11) (by decide) rfl rfl) $$ HP; iintro HP
  iapply (step_read m c g (n := 12) (by decide) rfl) $$ HP; iintro HP
  iapply (step_write m c g (n := 12) (by decide) rfl rfl) $$ HP; iintro HP
  iapply (step_read m c g (n := 13) (by decide) rfl) $$ HP; iintro HP
  iapply (Entails.of_eq (wp_ret _ _ _ _ _).symm)
  imodintro
  iapply Hk; iexact HP

end Cert.KernelIdeal.Exchange
-- ==== Proof.Last.lean ====
/-
  Last: the kernel at the last grid point — the last copy, the waits, and the result.
-/
module

public import proofs.«01_k».proof.Proof.Waits

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The result, in its staging buffer. -/
def res : sProp 𝕄 := ((c : Thread nD τ).loc cc0_stg2_0) ↦{fullShare} Ov m c

theorem run_last (t : Fin 16) (h15 : t.val = 15) (M : Memref sig .tc .vmem S4096x512 .bf16) (hM : M.IsWhole)
    (g0 : Buf (Elt F) ((c : Thread nD τ).loc cc0_stg2_0)) (Q : PUnit → sProp 𝕄) :
    iprop(middle m K c t.val ∗ owing c (owedAt c t.val) ∗ cols m c M t.val ∗ (((c : Thread nD τ).loc cc0_stg2_0) ↦{fullShare} g0))
      ⊢ iprop(((final m K c ∗ owing c (owedAt c (t.val + 1)) ∗ cols m c M t.val ∗ res m c) -∗ Q ⟨⟩)
          -∗ runs c (body F t M hM) Q) := by
  have h0 : t.val ≠ 0 := by omega
  have n1 : ¬ k0_cond1 (pnt t) = 1#1 := fun h => h0 ((cond1_iff t).mp h)
  have n2 : ¬ Scalar.cmpi .ne (Scalar.extui (Scalar.cmpi .eq (BitVec.ofNat 32 (pnt t 0).val) 0#32) : BitVec 32) 0#32 = 1#1 := fun h => h0 ((cond2_iff t).mp h)
  have n3 : ¬ k0_cond3 (pnt t) = 1#1 := fun h => h0 ((cond3_iff t).mp h)
  have n4 : k0_cond4 (pnt t) = 1#1 := (cond4_iff t).mpr h0
  have n5 : k0_cond5 (pnt t) = 1#1 := (cond5_iff t).mpr h15
  unfold body
  simp only [cc0_body_eq_skeleton]; unfold cc0_body_skel
  simp only [smemLoad, smemLoadElt, Prog.lift, Prog.bind_op, Prog.bind_ret, Prog.pure_eq_ret, dif_neg n1, dif_neg n2, dif_neg n3, dif_pos n4, dif_pos n5]
  unfold middle tblHeld cols owns
  iintro ⟨⟨#Hkn, Ht, Hx, Hb, Hs, Hat⟩, HO, ⟨%g, %hg, Hw⟩, Ho⟩ Hk
  iapply (wp_load_rect 𝒱₀ (c : Thread nD τ) none Set.univ (m := tblM) (r := Rect.unit (s := S1) ![0] S1.size inb_S1_S1_0) (S := Finset.univ) (f := tbl (F := F) c 0) (Finset.subset_univ _)) $$ Ht; iintro Ht
  iapply (wp_assume 𝒱₀ (c : Thread nD τ) none Set.univ (chk c t))
  iapply (wp_load_rect 𝒱₀ (c : Thread nD τ) none Set.univ (m := xbM) (r := Rect.unit (s := S256x4096) ![0, 0] S256x4096.size inb_S256x4096_S256x4096_0_0) (S := Finset.univ) (f := Xb m c) (Finset.subset_univ _)) $$ Hx; iintro Hx
  iapply (wp_load_rect 𝒱₀ (c : Thread nD τ) none Set.univ (m := M) (r := Rect.unit (s := S4096x512) ![0, 0] S4096x512.size inb_S4096x512_S4096x512_0_0) (S := M.view.set) (f := g) (by rw [Memref.IsWhole.set_eq_univ hM]; exact Finset.subset_univ _)) $$ Hw; iintro Hw
  iapply (step_send m K c (Nat.pos_of_ne_zero h0) t.isLt (Fin.ext (dev16_eq c t)) (off2_eq c t) (off5_eq c) (off6_eq c t)
    (by rw [read_all xbM off_zero, read_all M off_zero]; unfold Yb; rw [← hg]; rfl) (sem_send (off3_eq c t) _ _) (sem_recv (off4_eq c) _ _)) $$ [HO Hs]
  · isplitr; · iexact Hkn
    isplitl [HO] <;> iassumption
  iintro ⟨HO, Hs⟩
  ihave HO := (Entails.of_eq (congrArg (fun n => (owing c (owedAt c (n + 1)) : sProp 𝕄)) h15)) $$ HO
  ihave Hs := (Entails.of_eq (congrArg (fun n => (bigSep Finset.univ (slot m c (n + 1)) : sProp 𝕄)) h15)) $$ Hs
  ihave HW : waited m c 0 $$ [HO Hb Hs]
  · unfold waited
    isplitl [HO]; · iexact HO
    iapply (wslot_start m c)
    isplitl [Hb] <;> iassumption
  iapply (Entails.of_eq (wp_bind _ _ _ _ _ _).symm)
  iapply (waits_low m K c t M hM) $$ [HW]
  · isplitr; · iexact Hkn
    iexact HW
  iintro HW
  iapply (Entails.of_eq (wp_bind _ _ _ _ _ _).symm)
  iapply (waits_high m K c t M hM g0) $$ [HW Ho]
  · isplitr; · iexact Hkn
    isplitl [HW] <;> iassumption
  iintro ⟨HO, Hsem, Hsnd, HP⟩
  iapply (Entails.of_eq (wp_bind _ _ _ _ _ _).symm)
  iapply (part4_run m c t M hM g0) $$ HP; iintro HP
  iapply (Entails.of_eq (wp_bind _ _ _ _ _ _).symm)
  iapply (part5_run m c t M hM g0) $$ HP; iintro HP
  iapply (Entails.of_eq (wp_bind _ _ _ _ _ _).symm)
  iapply (part6_run m c t M hM g0) $$ HP; iintro HP
  iapply (Entails.of_eq (wp_bind _ _ _ _ _ _).symm)
  iapply (part7_run m c t M hM g0) $$ HP; iintro HP
  iapply (step_write m c g0 (n := 13) (by decide) rfl rfl) $$ HP; iintro HP
  iapply (step_read m c g0 (n := 14) (by decide) rfl) $$ HP; iintro HP
  iapply (step_write m c g0 (n := 14) (by decide) rfl rfl) $$ HP; iintro HP
  iapply (step_read m c g0 (n := 15) (by decide) rfl) $$ HP; iintro HP
  iapply (step_write m c g0 (n := 15) (by decide) rfl rfl) $$ HP; iintro HP
  iapply (Entails.of_eq (wp_ret _ _ _ _ _).symm)
  imodintro
  iapply Hk
  unfold placed
  icases HP with ⟨Hr, Ho⟩
  isplitr [HO Hw Ho]
  · unfold final tblHeld xbAny rcvWhole
    isplitr; · iexact Hkn
    isplitl [Ht]; · iexact Ht
    isplitl [Hx]; · iexists Xb m c; iexact Hx
    isplitl [Hsnd]; · iexact Hsnd
    isplitl [Hr]; · iexists Rv m c; iexact Hr
    isplitl [Hsem] <;> iassumption
  isplitl [HO]
  · iapply (Entails.of_eq (congrArg (fun n => (owing c (owedAt c (n + 1)) : sProp 𝕄)) h15.symm)); iexact HO
  isplitl [Hw]
  · iexists g
    isplitr; · ipureintro; exact hg
    iexact Hw
  unfold res
  iapply (Entails.of_eq (congrArg (fun f => (((c : Thread nD τ).loc cc0_stg2_0) ↦{fullShare} f : sProp 𝕄)) (fill_full (fun i => k0_pay7 (Yb m i c)) g0)))
  iexact Ho

end Cert.KernelIdeal.Exchange
-- ==== Proof.Body.lean ====
/-
  Body: at every grid point the kernel takes the pipeline's invariant to the next.
-/
module

public import proofs.«01_k».proof.Proof.First
public import proofs.«01_k».proof.Proof.Last

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What the device owes, as the pipeline states it: both ways. -/
theorem owes_out (t : Fin ((cfg0 (F := F) (adm c)).N + 1)) : (dat m c).owesAt () t ⊢ (owing c (owedAt c t.val) : sProp 𝕄) := by
  unfold Pipeline.Dat.owesAt Pipeline.owesWithin
  iintro ⟨%W, -, H⟩
  iexists W
  iexact H
theorem owes_in (t : Fin ((cfg0 (F := F) (adm c)).N + 1)) : (owing c (owedAt c t.val) : sProp 𝕄) ⊢ (dat m c).owesAt () t := by
  unfold Pipeline.Dat.owesAt Pipeline.owesWithin Pipeline.Dat.bound
  iintro ⟨%W, H⟩
  iexists W
  isplitr
  · ipureintro; exact fun _ _ => Or.inl trivial
  iexact H

abbrev Slots : Type := (w : Fin 3) → Fin ((cfg0 (F := F) (adm c)).win w).nbuf

theorem stage_0 (a : Fin 1) : stage0_0 a = Memref.whole cc0_stg0_0 := by
  obtain rfl : a = 0 := Subsingleton.elim _ _; rfl
theorem stage_2 (a : Fin 1) : stage0_2 a = Memref.whole cc0_stg2_0 := by
  obtain rfl : a = 0 := Subsingleton.elim _ _; rfl

/-- The pipeline's call of the kernel. -/
theorem call (t : Fin 16) (s : Slots (F := F) c) :
    (defs₀ (F := F) .tc (cfg0 (F := F) (adm c)).body ((cfg0 (F := F) (adm c)).bodyArgs t s) : Pg F)
      = body F t (spec0_1.stage (s 1)) (hstage0_1 ((s 1).cast nbuf0_1)) := by
  show cc0_body (grid0.coords t) (Memref.whole main_v5) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) cc0_scratch3 cc0_scratch4 = _
  generalize s 0 = a0, s 2 = a2
  obtain rfl : a0 = (0 : Fin 1) := Subsingleton.elim (α := Fin 1) _ _
  obtain rfl : a2 = (0 : Fin 1) := Subsingleton.elim (α := Fin 1) _ _
  rfl

/-- The third window's staging buffer, at some contents. -/
def outAny : sProp 𝕄 := iprop(∃ f : Buf (Elt F) ((c : Thread nD τ).loc cc0_stg2_0), ((c : Thread nD τ).loc cc0_stg2_0) ↦{fullShare} f)

theorem win_0 (a : Fin 1) (X) : (owns (c : Thread nD τ) (spec0_0.stage a) fullShare X : sProp 𝕄) = owns (c : Thread nD τ) (Memref.whole cc0_stg0_0) fullShare X := by
  obtain rfl : a = 0 := Subsingleton.elim _ _; rfl
theorem win_2 (a : Fin 1) (X) : (owns (c : Thread nD τ) (spec0_2.stage a) fullShare X : sProp 𝕄) = (((c : Thread nD τ).loc cc0_stg2_0) ↦{fullShare} X) := by
  obtain rfl : a = 0 := Subsingleton.elim _ _
  exact owns_whole ..

/-- One grid point, whatever else is kept of the result's staging buffer. -/
theorem point (t : Fin 16) (M : Memref sig .tc .vmem S4096x512 .bf16) (hM : M.IsWhole) (P P' : sProp 𝕄)
    (hlast : t.val = 15 → (P ⊢ outAny c) ∧ (res m c ⊢ P')) (hrest : t.val ≠ 15 → (P ⊢ P')) :
    iprop(inv m c t.val ∗ owing c (owedAt c t.val) ∗ own m c ∗ cols m c M t.val ∗ P)
      ⊢ runs c (body F t M hM) fun _ => iprop(inv m c (t.val + 1) ∗ owing c (owedAt c (t.val + 1)) ∗ own m c ∗ cols m c M t.val ∗ P') := by
  by_cases h0 : t.val = 0
  · have ht : t = (0 : Fin 16) := Fin.ext h0
    subst ht
    show iprop(inv m c 0 ∗ owing c (owedAt c 0) ∗ own m c ∗ cols m c M 0 ∗ P)
      ⊢ runs c (body F 0 M hM) fun _ => iprop((∃ K, middle m K c 1) ∗ owing c (owedAt c 1) ∗ own m c ∗ cols m c M 0 ∗ P')
    iintro ⟨H, HO, Hx, Hw, HP⟩
    ihave H := (Entails.of_eq (inv_zero m c)) $$ H
    icases H with ⟨%K, H⟩
    iapply (run_first m K c 0 rfl M hM) $$ [H HO Hx Hw]
    · isplitl [H]; · iexact H
      isplitl [HO]; · iexact HO
      isplitl [Hx] <;> iassumption
    iintro ⟨H, HO, Hx, Hw⟩
    isplitl [H]; · iexists K; iexact H
    isplitl [HO]; · iexact HO
    isplitl [Hx]; · iexact Hx
    isplitl [Hw]; · iexact Hw
    iapply (hrest (by decide)); iexact HP
  by_cases h15 : t.val = 15
  · obtain ⟨ha, hb⟩ := hlast h15
    iintro ⟨H, HO, Hx, Hw, HP⟩
    ihave H := (Entails.of_eq (inv_mid m c h0 t.isLt)) $$ H
    icases H with ⟨%K, H⟩
    ihave HP := ha $$ HP
    unfold outAny
    icases HP with ⟨%g0, HP⟩
    iapply (run_last m K c t h15 M hM g0) $$ [H HO Hw HP]
    · isplitl [H]; · iexact H
      isplitl [HO]; · iexact HO
      isplitl [Hw] <;> iassumption
    iintro ⟨H, HO, Hw, HP⟩
    isplitl [H]
    · iapply (Entails.of_eq (congrArg (fun n => inv m c (n + 1)) h15.symm))
      iapply (Entails.of_eq (inv_end m c).symm)
      iexists K; iexact H
    isplitl [HO]; · iexact HO
    isplitl [Hx]; · iexact Hx
    isplitl [Hw]; · iexact Hw
    iapply hb; iexact HP
  · have h16 : t.val + 1 < 16 := by have := t.isLt; omega
    iintro ⟨H, HO, Hx, Hw, HP⟩
    ihave H := (Entails.of_eq (inv_mid m c h0 t.isLt)) $$ H
    icases H with ⟨%K, H⟩
    iapply (run_mid m K c t h0 h15 M hM) $$ [H HO Hw]
    · isplitl [H]; · iexact H
      isplitl [HO] <;> iassumption
    iintro ⟨H, HO, Hw⟩
    isplitl [H]
    · iapply (Entails.of_eq (inv_mid m c (Nat.succ_ne_zero _) h16).symm)
      iexists K; iexact H
    isplitl [HO]; · iexact HO
    isplitl [Hx]; · iexact Hx
    isplitl [Hw]; · iexact Hw
    iapply (hrest h15); iexact HP

theorem body_all : Pipeline.BodyObligation (dat m c) (defs₀ (F := F)) 𝒱₀ () Set.univ := fun t => by
  rw [bigSep_W0, bigSep_W0]
  generalize (cfg0 (F := F) (adm c)).slots t = s
  rw [call c t s]
  dsimp only
  have ei : idle0 2 (((pcfg0 (F := F)).gridAt (adm c).1).coords t) = !decide (t.val = 15) := idle_2 c t
  have ef : ((pcfg0 (F := F)).win (adm c) 2).flush t = decide (t.val = 15) := flush_2 c t
  have hp := point m c t (spec0_1.stage (s 1)) (hstage0_1 ((s 1).cast nbuf0_1))
    (iprop(∃ d, owns (c : Thread nD τ) (spec0_2.stage (s 2)) fullShare ((dat m c).before (2 : Fin 3) t d)))
    (if t.val = 15 then owns (c : Thread nD τ) (spec0_2.stage (s 2)) fullShare (Ov m c)
      else iprop(∃ d, owns (c : Thread nD τ) (spec0_2.stage (s 2)) fullShare ((dat m c).before (2 : Fin 3) t d)))
    (fun h => ⟨by
      unfold outAny
      iintro ⟨%d, H⟩
      iexists ((dat m c).before (2 : Fin 3) t d)
      iapply (Entails.of_eq (win_2 c (s 2) _)); iexact H, by
      rw [if_pos h]; exact Entails.of_eq (win_2 c (s 2) _).symm⟩)
    (fun h => by rw [if_neg h])
  rw [ei]
  generalize hfl : Pipeline.Window.flush _ t = b
  obtain rfl : b = decide (t.val = 15) := hfl.symm.trans ef
  refine BIBase.Entails.trans ?_ (BIBase.Entails.trans hp (wp_mono _ _ _ fun _ => ?_))
  · iintro ⟨H, HO, ⟨%d0, H0⟩, ⟨%d1, H1⟩, H2⟩
    isplitl [H]; · iapply (Entails.of_eq (show (dat m c).Φ t.castSucc = inv m c t.val from rfl)); iexact H
    isplitl [HO]; · iapply (owes_out m c t.castSucc); iexact HO
    isplitl [H0]
    · unfold own
      iapply (Entails.of_eq ((congrArg (fun X => (owns (c : Thread nD τ) (spec0_0.stage (s 0)) fullShare X : sProp 𝕄)) (before_0 m c t d0)).trans (win_0 c (s 0) _)))
      iexact H0
    isplitl [H1]
    · unfold cols
      iapply (Entails.of_eq (congrArg (fun X => (owns (c : Thread nD τ) (spec0_1.stage (s 1)) fullShare X : sProp 𝕄)) (before_1 m c t d1)))
      iexact H1
    iexact H2
  · iintro ⟨H, HO, H0, H1, H2⟩
    isplitl [H]; · iapply (Entails.of_eq (show inv m c (t.val + 1) = (dat m c).Φ t.succ from rfl)); iexact H
    isplitl [HO]; · iapply (owes_in m c t.succ); iexact HO
    isplitl [H0]; · unfold own; iapply (Entails.of_eq (win_0 c (s 0) _).symm); iexact H0
    isplitl [H1]; · unfold cols; iexact H1
    by_cases h : t.val = 15
    · simp only [if_pos h, decide_eq_true h, Bool.not_true]; iexact H2
    · simp only [if_neg h, decide_eq_false h, Bool.not_false]; iexact H2

end Cert.KernelIdeal.Exchange
-- ==== Proof.Region.lean ====
/-
  Region: the kernel's call as one segment of the program — what it is entered with, what it leaves, and how the exchange's
  resources are built out of scratch buffers and counters and taken apart again.
-/
module

public import proofs.«01_k».proof.Proof.Body
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## What a device brings -/

/-- The tokens of the duties device `c` pays. -/
def tokens (c : Dev nD) : sProp 𝕄 := bigSep Finset.univ fun j : Fin 16 => if j = c then iprop(emp)
  else iprop(dutyTok ER (sendCell c j) 0 c ∗ dutyTok ER (recvCell j c) 0 c ∗ dutyTok ER (barCell j) 0 c)
/-- The credit for the copies that device `c` receives. -/
def credits (c : Dev nD) : sProp 𝕄 := bigSep Finset.univ fun i : Fin 16 => if i = c then iprop(emp) else cred (tallyAt (recvCell c i) () N)
/-- The right to open each of device `c`'s own DMA cells. -/
def opens (c : Dev nD) : sProp 𝕄 := bigSep Finset.univ fun k : Fin 32 => openTok ER ((c : Thread nD τ), osem k)
/-- The positions on device `c`'s own DMA cells, once open. -/
def places (c : Dev nD) : sProp 𝕄 := bigSep Finset.univ fun i : Fin 16 => iprop(atPos ER (sendCell c i) 0 ∅ 0 ∗ atPos ER (recvCell c i) 0 ∅ 0)

/-- Before the call. -/
def ready (m : (ℓ : Loc nD τ sig) → Buf (Elt F) ℓ) (K : GSem nD τ sig → ℕ) (c : Dev nD) : sProp 𝕄 :=
  iprop(recs m K ∗ barOpen ∗ opens c ∗ tokens c ∗ credits c ∗ atPos ER (barCell c) 0 ∅ 0 ∗ cred (tallyAt (barCell c) () 15))
/-- At its entry, the cells open. -/
def entered (m : (ℓ : Loc nD τ sig) → Buf (Elt F) ℓ) (K : GSem nD τ sig → ℕ) (c : Dev nD) : sProp 𝕄 :=
  iprop(known m K c ∗ places c ∗ tokens c ∗ credits c ∗ atPos ER (barCell c) 0 ∅ 0 ∗ cred (tallyAt (barCell c) () 15))
/-- At its exit. -/
def left (m : (ℓ : Loc nD τ sig) → Buf (Elt F) ℓ) (K : GSem nD τ sig → ℕ) (c : Dev nD) : sProp 𝕄 :=
  iprop(recs m K ∗ atPos ER (barCell c) (0 + 1) ∅ 0)

/-! ## Opening the cells -/

theorem open_one (i : Fin 16) :
    iprop(recs m K ∗ (openTok ER ((c : Thread nD τ), osem (lo i)) ∗ openTok ER ((c : Thread nD τ), osem (hi i)))
        ∗ (semVal ((c : Thread nD τ), osem (lo i)) 0 ∗ semVal ((c : Thread nD τ), osem (hi i)) 0))
      ⊢ iprop(|={Set.univ}=> ((atPos ER (sendCell c i) 0 ∅ 0 ∗ atPos ER (recvCell c i) 0 ∅ 0)
          ∗ (reached ER (sendCell c i) 0 ∗ reached ER (recvCell c i) 0))) := by
  rw [osem_lo, osem_hi]
  iintro ⟨#Hrec, ⟨Ho1, Ho2⟩, Hv1, Hv2⟩
  ihave #Hi1 := (recs_at m K (mem_send c i)) $$ Hrec
  ihave #Hi2 := (recs_at m K (mem_recv c i)) $$ Hrec
  imod (Rounds.cell_open ER (Rd m) (g := sendCell c i) (Set.mem_univ (K (sendCell c i)))) $$ [Ho1 Hv1] with ⟨Ha1, #Hr1⟩
  · isplitr; · iexact Hi1
    isplitl [Ho1] <;> iassumption
  imod (Rounds.cell_open ER (Rd m) (g := recvCell c i) (Set.mem_univ (K (recvCell c i)))) $$ [Ho2 Hv2] with ⟨Ha2, #Hr2⟩
  · isplitr; · iexact Hi2
    isplitl [Ho2] <;> iassumption
  imodintro
  isplitl [Ha1 Ha2]
  · isplitl [Ha1] <;> iassumption
  isplitr
  · iexact Hr1
  · iexact Hr2

theorem open_all :
    iprop(recs m K ∗ opens c ∗ Pipeline.ownSems0 osem c) ⊢ iprop(|={Set.univ}=> (places (F := F) c ∗ ownOpen c)) := by
  have e1 : (opens (F := F) c) = bigSep Finset.univ fun i : Fin 16 => iprop(openTok ER ((c : Thread nD τ), osem (lo i)) ∗ openTok ER ((c : Thread nD τ), osem (hi i))) := by
    unfold opens; exact halves (F := F) fun k => openTok ER ((c : Thread nD τ), osem k)
  have e2 : (Pipeline.ownSems0 osem c : sProp 𝕄) = bigSep Finset.univ fun i : Fin 16 => iprop(semVal ((c : Thread nD τ), osem (lo i)) 0 ∗ semVal ((c : Thread nD τ), osem (hi i)) 0) := by
    unfold Pipeline.ownSems0; exact halves (F := F) fun k => semVal ((c : Thread nD τ), osem k) 0
  rw [e1, e2]
  have h3 : iprop(recs m K ∗ (bigSep Finset.univ fun i : Fin 16 => iprop(openTok ER ((c : Thread nD τ), osem (lo i)) ∗ openTok ER ((c : Thread nD τ), osem (hi i))))
        ∗ bigSep Finset.univ fun i : Fin 16 => iprop(semVal ((c : Thread nD τ), osem (lo i)) 0 ∗ semVal ((c : Thread nD τ), osem (hi i)) 0))
      ⊢ bigSep Finset.univ fun i : Fin 16 => iprop(|={Set.univ}=> ((atPos ER (sendCell c i) 0 ∅ 0 ∗ atPos ER (recvCell c i) 0 ∅ 0)
          ∗ (reached ER (sendCell c i) 0 ∗ reached ER (recvCell c i) 0))) := by
    iintro ⟨#Hrec, Ho, Hv⟩
    iapply (bigSep_with_persistent (R := recs m K)
      (Φ := fun i : Fin 16 => iprop((openTok ER ((c : Thread nD τ), osem (lo i)) ∗ openTok ER ((c : Thread nD τ), osem (hi i)))
        ∗ (semVal ((c : Thread nD τ), osem (lo i)) 0 ∗ semVal ((c : Thread nD τ), osem (hi i)) 0))) fun i _ => open_one m K c i)
    isplitr; · iexact Hrec
    iapply (family_zip _ _ _ fun i => Entails.refl _)
    isplitl [Ho] <;> iassumption
  iintro H
  ihave H := h3 $$ H
  imod (bigSep_fupd Finset.univ _) $$ H with H
  ihave H := (Entails.of_eq (bigSep_sep _ _ _)) $$ H
  imodintro
  unfold places ownOpen
  iexact H

/-! ## The invariant's first and last instance -/

theorem base_intro (j : Fin 16) :
    iprop((atPos ER (sendCell c j) 0 ∅ 0 ∗ atPos ER (recvCell c j) 0 ∅ 0) ∗ (if j = c then iprop(emp) else cred (tallyAt (recvCell c j) () N)))
      ⊢ base (F := F) c j := by
  unfold base
  iintro ⟨⟨H1, H2⟩, H3⟩
  isplitl [H1]; · iexact H1
  isplitl [H2]; · iexact H2
  iexact H3

theorem hslot_zero (j : Fin 16) :
    iprop((sndAny (F := F) c j ∗ rcvAny c j) ∗ (if j = c then iprop(emp)
      else iprop(dutyTok ER (sendCell c j) 0 c ∗ dutyTok ER (recvCell j c) 0 c ∗ dutyTok ER (barCell j) 0 c))) ⊢ hslot c 0 j := by
  unfold hslot
  by_cases h : j = c
  · subst h
    rw [if_pos rfl, if_pos rfl]
    iintro ⟨⟨H1, H2⟩, -⟩
    isplitl [H1] <;> iassumption
  · rw [if_neg h, if_neg h, if_neg (by have := dist_pos h; omega)]
    iintro ⟨⟨H1, H2⟩, H3, H4, H5⟩
    isplitl [H1]; · iexact H1
    isplitl [H3]; · iexact H3
    isplitl [H4]; · iexact H4
    isplitl [H5] <;> iassumption

theorem first_intro :
    iprop(entered m K c ∗ tblHeld c ∗ xbAny c ∗ sndWhole c ∗ rcvWhole c) ⊢ first m K c := by
  unfold entered first places tokens credits sndWhole rcvWhole
  iintro ⟨⟨#Hk, Hpl, Htok, Hcr, Hat, Hc⟩, Ht, Hx, ⟨%f, Hs⟩, ⟨%g, Hr⟩⟩
  isplitr; · iexact Hk
  isplitl [Ht]; · iexact Ht
  isplitl [Hx]; · iexact Hx
  isplitl [Hpl Hcr]
  · iapply (family_zip _ _ (base (F := F) c) fun j => base_intro c j)
    isplitl [Hpl]; · iexact Hpl
    iexact Hcr
  isplitl [Hs Hr Htok]
  · ihave Hs := (Entails.of_eq (split_snd (F := F) c f)) $$ Hs
    ihave Hr := (Entails.of_eq (split_rcv (F := F) c g)) $$ Hr
    ihave H := (family_zip (fun i => sndRow (F := F) c i f) (fun i => rcvRow (F := F) c i g)
      (fun i => iprop(sndAny (F := F) c i ∗ rcvAny (F := F) c i)) fun j => by
        unfold sndAny rcvAny
        iintro ⟨H1, H2⟩
        isplitl [H1]
        · iexists f; iexact H1
        · iexists g; iexact H2) $$ [Hs Hr]
    · isplitl [Hs] <;> iassumption
    iapply (family_zip _ _ (hslot (F := F) c 0) fun j => hslot_zero c j)
    isplitl [H]; · iexact H
    iexact Htok
  isplitl [Hat]; · iexact Hat
  iexact Hc

theorem final_elim :
    final m K c ⊢ iprop(left m K c ∗ Pipeline.ownSems0 osem c ∗ xbAny c ∗ sndWhole c ∗ rcvWhole c) := by
  unfold final left known
  iintro ⟨⟨#Hr, -, -, -⟩, -, Hx, Hs, Hv, Ho, Hat⟩
  isplitl [Hat]
  · isplitr; · iexact Hr
    iexact Hat
  isplitl [Ho]; · iexact Ho
  isplitl [Hx]; · iexact Hx
  isplitl [Hs] <;> iassumption

/-! ## The arrays -/

/-- The result's array is written once, whole. -/
theorem result : (dat m c).arrAt (2 : Fin 3) 16 = Ov m c := by
  refine (dat m c).arrAt_eq_of_cover (2 : Fin 3) (Ov m c) (fun t _ => ?_) (fun i => ⟨(15 : Fin 16), ?_, ?_⟩)
  · funext y
    show Ov m c _ = Ov m c _
    congr 1
    funext a
    match a with
    | 0 => exact Fin.ext (show (y 0).val = 0 * 4096 + 1 * (y 0).val by omega)
    | 1 => exact Fin.ext (show (y 1).val = 0 * 512 + 1 * (y 1).val by omega)
  · exact (flush_2 (F := F) c 15).trans rfl
  · refine Finset.mem_map.mpr ⟨i, Finset.mem_univ _, ?_⟩
    funext a
    match a with
    | 0 => exact Fin.ext (show 0 * 4096 + 1 * (i 0).val = (i 0).val by omega)
    | 1 => exact Fin.ext (show 0 * 512 + 1 * (i 1).val = (i 1).val by omega)

theorem share_full (w : Fin 3) : (dat m c).share w = fullShare := by
  unfold Pipeline.Dat.share; exact ite_self _

/-- What the region leaves in the arrays. -/
def outcome (m : (ℓ : Loc nD τ sig) → Buf (Elt F) ℓ) (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v6) ↦{fullShare} (Ov m c)))

theorem arrays_end : ((dat m c).arrays ((dat m c).arrAt · 16) : sProp 𝕄) = outcome m c := by
  have e := Pipeline.PerCore.arrays_eq (Pipeline.pinD (pcfgs (F := F)) adms) (dats m) (0 : Fin 1) c arr_whole0 (share_full m c) ((dat m c).arrAt · 16)
  refine e.trans ?_
  refine (bigSep_W0 _).trans ?_
  have e0 : (dat m c).arrAt (0 : Fin 3) 16 = m ((c : Thread nD τ).loc main_arg0) := (dat m c).arrAt_in (0 : Fin 3) rfl 16
  have e1 : (dat m c).arrAt (1 : Fin 3) 16 = m ((c : Thread nD τ).loc main_arg1) := (dat m c).arrAt_in (1 : Fin 3) rfl 16
  rw [e0, e1, result]
  rfl

/-! ## The segment -/

/-- The host's table is the device's position. -/
theorem V1_tbl : V1 m c main_v5 = tbl (F := F) c 0 := by
  funext i
  refine Eq.trans (b := Host.remui (Host.divui (constantI S_ 32 (Dev.word c)) (constantI S_ 32 1#32)) (constantI S_ 32 16#32) finZeroElim) rfl ?_
  have h : ∀ c : Fin 16, (Host.remui (Host.divui (constantI S_ 32 (BitVec.ofNat 32 c.val)) (constantI S_ 32 1#32)) (constantI S_ 32 16#32) finZeroElim : BitVec 32)
    = BitVec.ofNat 32 c.val := by decide
  exact h c

/-- Before the host stretch and after it: the unscoped buffers, the exchange's share and what is owed. -/
def carry (m : (ℓ : Loc nD τ sig) → Buf (Elt F) ℓ) (c : Dev nD) : sProp 𝕄 := iprop((∃ K, ready m K c) ∗ owing c (O₀ c))
/-- At the end of the program. -/
def done (m : (ℓ : Loc nD τ sig) → Buf (Elt F) ℓ) (c : Dev nD) : sProp 𝕄 := iprop(outcome m c ∗ semVal (barCell c) 0)

theorem tables : (Pipeline.prefHeld pre0 c (fun _ => fullShare) (tbl (F := F) c) : sProp 𝕄) = tblHeld c := by
  unfold Pipeline.prefHeld
  exact bigSep_univ_eq_bigSepL [(0 : Fin 1)] (by decide) (by decide) _

theorem tables_of : (Pipeline.prefHeld pre0 c (fun _ => fullShare) (fun k => V1 m c (pre0.ref k)) : sProp 𝕄) = tblHeld c := by
  unfold Pipeline.prefHeld
  refine (bigSep_univ_eq_bigSepL [(0 : Fin 1)] (by decide) (by decide) _).trans ?_
  show (((c : Thread nD τ).loc main_v5) ↦{fullShare} V1 m c main_v5 : sProp 𝕄) = _
  rw [V1_tbl]; rfl

theorem A_eq (w : Fin 3) : (dat m c).A w = V1 m c (Pipeline.arrRef spec0 w) := by
  match w with
  | 0 => exact (V1_of m c main_arg0 (by decide)).symm
  | 1 => exact (V1_of m c main_arg1 (by decide)).symm
  | 2 => exact (V1_of m c main_v6 (by decide)).symm

theorem enter :
    iprop((StableHlo.held (c.tc : Thread nD τ) (Pipeline.ucRefs τ sig) (V1 m c) ∗ carry m c) ∗ Pipeline.ownSems0 osem c ∗ levAts L lv)
      ⊢ iprop(|={Set.univ}=> ((dat m c).arrays ((dat m c).arrAt · 0) ∗ Pipeline.prefHeld pre0 c (fun _ => fullShare) (tbl (F := F) c)
        ∗ (dat m c).owesAt () 0 ∗ (∃ K, entered m K c) ∗ emp)) := by
  have hs := Pipeline.PerCore.arrays_of_unscopedBufs (pcfgs (F := F)) adms (dats m) (p := (0 : Fin 1)) winFacts0 arr_whole0 c (share_full m c) (fun b => V1 m c b) (A_eq m c)
  have hu : (Pipeline.unscopedRest spec0 c (fun b => V1 m c b) : sProp 𝕄) ⊢ tblHeld c :=
    (Entails.of_eq (Pipeline.unscopedRest_split preFacts0 c (fun b => V1 m c b))).trans
      ((show _ ⊢ _ from by iintro ⟨H, -⟩; iexact H).trans (Entails.of_eq (tables_of m c)))
  have hh : (StableHlo.held (c.tc : Thread nD τ) (Pipeline.ucRefs τ sig) (V1 m c) : sProp 𝕄) ⊢ unscopedBufs c (fun b => V1 m c b) :=
    Entails.of_eq (Pipeline.unscopedBufs_held c (V1 m c)).symm
  rw [tables]
  unfold carry ready
  iintro ⟨⟨Hh, ⟨%K, #Hrec, #Hbo, Hop, Htok, Hcr, Hat, Hc⟩, Ho⟩, Hv, #Hlev⟩
  ihave Hh := hh $$ Hh
  ihave Hh := hs $$ Hh
  icases Hh with ⟨Ha, Hu⟩
  ihave Ht := hu $$ Hu
  imod (open_all m K c) $$ [Hop Hv] with ⟨Hpl, #Hoo⟩
  · isplitr; · iexact Hrec
    isplitl [Hop] <;> iassumption
  imodintro
  isplitl [Ha]; · iexact Ha
  isplitl [Ht]; · iexact Ht
  isplitl [Ho]
  · iapply (owes_in m c 0)
    iexact Ho
  isplitl [Hpl Htok Hcr Hat Hc]
  · iexists K
    unfold entered known
    isplitr
    · isplitr; · iexact Hrec
      isplitr; · iexact Hlev
      isplitr; · iexact Hbo
      iexact Hoo
    isplitl [Hpl]; · iexact Hpl
    isplitl [Htok]; · iexact Htok
    isplitl [Hcr]; · iexact Hcr
    isplitl [Hat]; · iexact Hat
    iexact Hc
  · iempintro

theorem begin : iprop((∃ K, entered m K c) ∗ Pipeline.prefHeld pre0 c (fun _ => fullShare) (tbl (F := F) c) ∗ Pipeline.scopedRest spec0 c) ⊢ inv m c 0 := by
  rw [tables, scopedRest0_eq, inv_zero]
  iintro ⟨⟨%K, He⟩, Ht, Hx, Hs, Hr⟩
  iexists K
  iapply (first_intro m K c)
  isplitl [He]; · iexact He
  isplitl [Ht]; · iexact Ht
  unfold xbAny sndWhole rcvWhole
  isplitl [Hx]; · iexact Hx
  isplitl [Hs] <;> iassumption

theorem finish : inv m c 16 ⊢ iprop((∃ K, left m K c) ∗ Pipeline.ownSems0 osem c ∗ Pipeline.scopedRest spec0 c) := by
  rw [scopedRest0_eq, inv_end]
  iintro ⟨%K, H⟩
  ihave H := (final_elim m K c) $$ H
  unfold xbAny sndWhole rcvWhole
  icases H with ⟨Hl, Ho, Hx, Hs, Hr⟩
  isplitl [Hl]; · iexists K; iexact Hl
  isplitl [Ho]; · iexact Ho
  isplitl [Hx]; · iexact Hx
  isplitl [Hs] <;> iassumption

theorem leave :
    iprop((dat m c).arrays ((dat m c).arrAt · 16) ∗ (dat m c).owesAt () (Fin.last (cfg0 (F := F) (adm c)).N) ∗ (∃ K, left m K c) ∗ emp)
      ⊢ iprop(|={Set.univ}=> (done m c ∗ owing c 0)) := by
  rw [arrays_end]
  unfold left done
  iintro ⟨Ha, Ho, ⟨%K, #Hrec, Hat⟩, -⟩
  ihave #Hi := (recs_at m K (mem_bar c)) $$ Hrec
  imod (Rounds.cell_close ER (Rd m) (g := barCell c) (Set.mem_univ (K (barCell c))) id (duties_later m (barCell c))) $$ [Hat] with Hv
  · isplitr; · iexact Hi
    iexact Hat
  imodintro
  isplitl [Ha Hv]
  · isplitl [Ha] <;> iassumption
  ihave Ho := (owes_out m c (Fin.last (cfg0 (F := F) (adm c)).N)) $$ Ho
  iexact Ho

theorem stage_low : ∀ (w : Fin 3) (s : Fin (spec0 w).nbuf), ((spec0 w).sem s).val < 20 := by decide
theorem stage_level (w : Fin 3) (s : Fin (spec0 w).nbuf) : lv ((c : Thread nD τ), .dma ((spec0 w).sem s)) () = 0 := if_pos (stage_low w s)

set_option backward.isDefEq.respectTransparency.types false in
/-- The call. -/
def region : Pipeline.PerCore.RegionSeg (pcfgs (F := F)) adms (dats m) () (defs₀ (F := F)) 𝒱₀ L lv (0 : Fin 1) where
  win := winFacts0.to₀
  block_pos := block_pos0
  stage_whole := stage_whole0
  K := Fin 32
  osem := osem
  ho := (by decide : Pipeline.OwnSemFacts spec0 osem)
  hbody c := (body_all m c).loose
  hwaits c := Pipeline.PerCore.cellsWaits_intro _ _ _ _ _ fun w s t => by
    exact mayWait_stage c t.val _ (stage_level c w s)
  pre c := iprop(StableHlo.held (c.tc : Thread nD τ) (Pipeline.ucRefs τ sig) (V1 m c) ∗ carry m c)
  post c := iprop(done m c ∗ owing c 0)
  X c := iprop(∃ K, entered m K c)
  Y c := iprop(∃ K, left m K c)
  Z c := iprop(emp)
  hentry c := enter m c
  hin c := begin m c
  hout c := finish m c
  hexit c := leave m c

end Cert.KernelIdeal.Exchange
-- ==== Proof.Start.lean ====
/-
  Start: the launch. Every cell's invariant is set up, the barrier cells open and each device's own DMA cells still closed; the
  tokens go to the devices that pay, the credit to those that wait.
-/
module

public import proofs.«01_k».proof.Proof.Region
public import Idealize.ShloMosaic.Lib.Quiescent

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The tokens -/

/-- The duties of device `c` at index `j`: its copy's two cells, and the signal. -/
def duty (x : Dev nD × Fin 16 × Fin 3) : GSem nD τ sig × ℕ × Dev nD :=
  match x.2.2 with
  | 0 => (sendCell x.1 x.2.1, 0, x.1)
  | 1 => (recvCell x.2.1 x.1, 0, x.1)
  | 2 => (barCell x.2.1, 0, x.1)
/-- Which one a duty is. -/
def which (y : GSem nD τ sig × ℕ × Dev nD) : Dev nD × Fin 16 × Fin 3 :=
  match y.1.2 with
  | .reg _ => (y.2.2, y.1.1.1, 2)
  | .dma s => if s.val < 20 then (y.2.2, slotIx s, 0) else (y.2.2, y.1.1.1, 1)

theorem which_duty : Function.LeftInverse which duty := by
  rintro ⟨c, j, k⟩
  match k with
  | 0 =>
    show (if (sendSem j).val < 20 then (c, slotIx (sendSem j), 0) else _) = _
    rw [if_pos (show (sendSem j).val < 20 by revert j; decide), slotIx_send]
  | 1 =>
    show (if (recvSem c).val < 20 then _ else ((c, j, 1) : Dev nD × Fin 16 × Fin 3)) = _
    rw [if_neg (show ¬ (recvSem c).val < 20 by revert c; decide)]
  | 2 => rfl

def dutyEmb : Dev nD × Fin 16 × Fin 3 ↪ GSem nD τ sig × ℕ × Dev nD := ⟨duty, which_duty.injective⟩
def allTokens : Finset (GSem nD τ sig × ℕ × Dev nD) := Finset.univ.map dutyEmb

theorem tokens_deal : (bigSep allTokens fun x => (dutyTok ER x.1 x.2.1 x.2.2 : sProp 𝕄)) ⊢ bigSep Finset.univ fun c : Dev nD => tokens (F := F) c := by
  unfold allTokens
  rw [bigSep_map, bigSep_univ_prod]
  refine bigSep_mono fun c _ => ?_
  rw [bigSep_univ_prod]
  unfold tokens
  refine bigSep_mono fun j _ => ?_
  refine (Entails.of_eq (bigSep_univ_eq_bigSepL [(0 : Fin 3), (1 : Fin 3), (2 : Fin 3)] (by decide) (by decide) _)).trans ?_
  show iprop(dutyTok ER (sendCell c j) 0 c ∗ dutyTok ER (recvCell j c) 0 c ∗ dutyTok ER (barCell j) 0 c) ⊢ _
  by_cases h : j = c
  · rw [if_pos h]; iintro -; iempintro
  · rw [if_neg h]

/-! ## The credit -/

theorem dueR_bar (d : Dev nD) (n : ℕ) : dueR d n (barCell c) () = 0 := by
  refine Nat.eq_zero_of_not_pos fun h => ?_
  obtain ⟨j, i, e⟩ := dueR_pos h
  cases congrArg Prod.snd e
theorem dueB_recv (d : Dev nD) (n : ℕ) (i : Fin 16) : dueB d n (recvCell c i) () = 0 := by
  refine Nat.eq_zero_of_not_pos fun h => ?_
  obtain ⟨j, e⟩ := dueB_pos h
  cases congrArg Prod.snd e

theorem barCell_inj {a b : Dev nD} (h : barCell a = barCell b) : a = b := congrArg (fun g : GSem nD τ sig => g.1.1) h
theorem recvSem_inj {i j : Fin 16} (h : recvSem i = recvSem j) : i = j := by
  have e := congrArg slotIx h; rwa [slotIx_recv, slotIx_recv] at e
theorem recvCell_inj {a b i j : Dev nD} (h : recvCell a i = recvCell b j) : a = b ∧ i = j :=
  ⟨congrArg (fun g : GSem nD τ sig => g.1.1) h, recvSem_inj (SemLoc.dma.inj (congrArg (fun g : GSem nD τ sig => g.2) h))⟩

theorem dueB_bar (d : Dev nD) : ∀ n, n ≤ 15 → dueB d n (barCell c) () = if 15 - n < dist d c then 1 else 0
  | 0, _ => by rw [if_neg (by have := dist_lt d c; omega)]; rfl
  | n + 1, h => by
    have ih := dueB_bar d n (by omega)
    have e : dueB d (n + 1) (barCell c) () = dueB d n (barCell c) () + (tallyAt (barCell (peer d (15 - n))) () 1 : CellTallies nD τ sig Unit) (barCell c) () := rfl
    rw [e, ih, tallyAt_apply]
    by_cases hp : dist d c = 15 - n
    · rw [if_neg (by omega), if_pos ⟨by rw [← eq_peer_of_dist hp], rfl⟩, if_pos (by omega)]
    · rw [if_neg (c := _ ∧ _) (fun h' => hp (by rw [barCell_inj h'.1, dist_peer d (by omega)])), Nat.add_zero]
      by_cases h1 : 15 - n < dist d c
      · rw [if_pos h1, if_pos (by omega)]
      · rw [if_neg h1, if_neg (by omega)]

theorem dueR_recv (d : Dev nD) (i : Fin 16) : ∀ n, n ≤ 15 → dueR d n (recvCell c i) () = if i = d ∧ 15 - n < dist d c then N else 0
  | 0, _ => by rw [if_neg (by have := dist_lt d c; omega)]; rfl
  | n + 1, h => by
    have ih := dueR_recv d i n (by omega)
    have e : dueR d (n + 1) (recvCell c i) () = dueR d n (recvCell c i) () + (tallyAt (recvCell (peer d (15 - n)) d) () N : CellTallies nD τ sig Unit) (recvCell c i) () := rfl
    rw [e, ih, tallyAt_apply]
    by_cases hi : i = d
    · subst hi
      by_cases hp : dist i c = 15 - n
      · rw [if_neg (by omega), if_pos ⟨by rw [← eq_peer_of_dist hp], rfl⟩, if_pos ⟨rfl, by omega⟩, Nat.zero_add]
      · rw [if_neg (c := recvCell c i = _ ∧ _) (fun h' => hp (by rw [(recvCell_inj h'.1).1, dist_peer i (by omega)])), Nat.add_zero]
        by_cases h1 : 15 - n < dist i c
        · rw [if_pos ⟨rfl, h1⟩, if_pos ⟨rfl, by omega⟩]
        · rw [if_neg (fun h' => h1 h'.2), if_neg (fun h' => by omega)]
    · rw [if_neg (fun h' => hi h'.1), if_neg (fun h' => hi (recvCell_inj h'.1).2), if_neg (fun h' => hi h'.1)]

theorem credit_bar : tallyOn (barCell c) (launchCredit (Pipeline.owing O₀) 0 (barCell c)) = (tallyAt (barCell c) () 15 : CellTallies nD τ sig Unit) := by
  unfold tallyAt; refine congrArg _ (Finsupp.ext fun u => ?_); cases u
  have h : ∀ d : Dev nD, O₀ d (barCell c) () = if 0 < dist d c then 1 else 0 := fun d => by
    show dueR d 15 (barCell c) () + dueB d 15 (barCell c) () = _
    rw [dueR_bar, dueB_bar c d 15 (Nat.le_refl _), Nat.zero_add]
  rw [Pipeline.launchCredit_owing, Finsupp.single_eq_same, Finset.sum_congr rfl fun d _ => h d]
  clear h; revert c; decide

theorem credit_recv {i : Fin 16} (hi : i ≠ c) :
    tallyOn (recvCell c i) (launchCredit (Pipeline.owing O₀) 0 (recvCell c i)) = (tallyAt (recvCell c i) () N : CellTallies nD τ sig Unit) := by
  unfold tallyAt; refine congrArg _ (Finsupp.ext fun u => ?_); cases u
  have h : ∀ d : Dev nD, O₀ d (recvCell c i) () = if i = d then N else 0 := fun d => by
    show dueR d 15 (recvCell c i) () + dueB d 15 (recvCell c i) () = _
    rw [dueB_recv, dueR_recv c d i 15 (Nat.le_refl _), Nat.add_zero]
    by_cases h : i = d
    · subst h; rw [if_pos ⟨rfl, by have := dist_pos (Ne.symm hi); omega⟩, if_pos rfl]
    · rw [if_neg (fun h' => h h'.1), if_neg h]
  rw [Pipeline.launchCredit_owing, Finsupp.single_eq_same, Finset.sum_congr rfl fun d _ => h d, Finset.sum_ite_eq Finset.univ i fun _ => N, if_pos (Finset.mem_univ _)]

def recvEmb : Fin 16 ↪ SemLoc sig := ⟨fun i => .dma (recvSem i), fun _ _ h => recvSem_inj (SemLoc.dma.inj h)⟩

theorem credit_deal : (Pipeline.launchCred O₀ c : sProp 𝕄) ⊢ iprop(cred (tallyAt (barCell c) () 15) ∗ credits c) := by
  unfold Pipeline.launchCred
  rw [bigSep_univ_at _ (SemLoc.reg barS), credit_bar]
  refine sep_mono .rfl ?_
  have hsub : Finset.univ.map recvEmb ⊆ Finset.univ.erase (SemLoc.reg barS) := fun x hx => by
    obtain ⟨i, -, rfl⟩ := Finset.mem_map.mp hx
    exact Finset.mem_erase.mpr ⟨fun h => (by cases h), Finset.mem_univ _⟩
  refine (bigSep_subset hsub).trans ?_
  rw [bigSep_map]
  unfold credits
  refine bigSep_mono fun i _ => ?_
  show (cred (tallyOn (recvCell c i) (launchCredit (Pipeline.owing O₀) 0 (recvCell c i))) : sProp 𝕄) ⊢ _
  by_cases h : i = c
  · rw [if_pos h]; iintro -; iempintro
  · rw [if_neg h, credit_recv c h]

/-! ## The cells -/

theorem cells_apart : Disjoint barCells ownCells := by
  rw [Finset.disjoint_left]
  intro g h₁ h₂
  unfold barCells at h₁; unfold ownCells at h₂
  obtain ⟨c, -, rfl⟩ := Finset.mem_map.mp h₁
  obtain ⟨ck, -, h⟩ := Finset.mem_map.mp h₂
  cases congrArg Prod.snd h

theorem cells_inj : Function.Injective (Pipeline.PerCore.cellOf (nD := nD) (τ := τ) (Pipeline.pinD (pcfgs (F := F)) adms)) :=
  Pipeline.PerCore.cellOf_injective (Pipeline.pinD (pcfgs (F := F)) adms)
    (fun _ p => by obtain rfl : p = 0 := Subsingleton.elim _ _; exact Pipeline.specSemsDistinct_of_nodup _ (semsDistinct 0))
    (fun _ p p' h => absurd (Subsingleton.elim p p') h)

/-- What the launch starts from: the pipeline's share and the exchange's. -/
def u₀ (F : FTy → Type) [FloatOps F] : UU :=
  (initOf (Pipeline.PerCore.cells (Pipeline.pinD (pcfgs (F := F)) adms) cells_inj) (Pipeline.PerCore.launchToks (Pipeline.pinD (pcfgs (F := F)) adms) cells_inj),
    launchOf barCells ownCells allTokens)

/-- The exchange's share, all of it on one device until it is dealt. -/
def parked (c : Dev nD) : sProp 𝕄 := if c = 0 then BI.own (ER (launchOf barCells ownCells allTokens)) else iprop(emp)

theorem parked_all : bigSep Finset.univ (parked (F := F)) = BI.own (ER (launchOf barCells ownCells allTokens)) := by
  have h : bigSep (Finset.univ.erase (0 : Dev nD)) (parked (F := F)) = (BI.emp : sProp 𝕄) := by
    rw [bigSep_congr (Ψ := fun _ => (BI.emp : sProp 𝕄)) fun c hc => by unfold parked; rw [if_neg (Finset.ne_of_mem_erase hc)]; rfl, BI.bigSep_emp_const]
  rw [bigSep_univ_at _ (0 : Dev nD), h]
  unfold parked; rw [if_pos rfl]
  exact BI.equiv_iff.mp sep_emp

/-! ## The deal -/

theorem counters_unscoped : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device keeps of its launch holdings. -/
def kept (m : (ℓ : Loc nD τ sig) → Buf (Elt F) ℓ) (c : Dev nD) : sProp 𝕄 :=
  iprop(StableHlo.held (c.tc : Thread nD τ) (Pipeline.ucRefs τ sig) (V0 m c) ∗ owing c (O₀ c) ∗ cred (tallyAt (barCell c) () 15) ∗ credits c)

/-- What it starts with. -/
def started (m : (ℓ : Loc nD τ sig) → Buf (Elt F) ℓ) (c : Dev nD) : sProp 𝕄 :=
  iprop(StableHlo.held (c.tc : Thread nD τ) (Pipeline.ucRefs τ sig) (V0 m c) ∗ carry m c)

theorem started_intro :
    iprop((recs m K ∗ barOpen) ∗ ((atPos ER (barCell c) 0 ∅ 0 ∗ opens c) ∗ tokens c) ∗ kept m c) ⊢ started m c := by
  unfold kept started carry ready
  iintro ⟨⟨#Hr, #Hb⟩, ⟨⟨Hat, Ho⟩, Ht⟩, Hh, HO, Hc, Hcr⟩
  isplitl [Hh]; · iexact Hh
  isplitr [HO]
  · iexists K
    isplitr; · iexact Hr
    isplitr; · iexact Hb
    isplitl [Ho]; · iexact Ho
    isplitl [Ht]; · iexact Ht
    isplitl [Hcr]; · iexact Hcr
    isplitl [Hat] <;> iassumption
  · iexact HO

theorem keep (ρ : Dev nD → PrngReg) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(kept m c ∗ semVal (barCell c) 0 ∗ parked c) : sProp 𝕄) := by
  rw [show unscopedBufs c (fun b => m ((c : Thread nD τ).loc b)) = (StableHlo.held (c.tc : Thread nD τ) (Pipeline.ucRefs τ sig) (V0 m c) : sProp 𝕄) from
    Pipeline.unscopedBufs_held c (V0 m c), counters_unscoped]
  unfold kept
  iintro ⟨Hh, Hv, HO, Hcr, -, Hp⟩
  ihave Hc := (credit_deal (F := F) c) $$ Hcr
  icases Hc with ⟨H1, H2⟩
  isplitl [Hh HO H1 H2]
  · isplitl [Hh]; · iexact Hh
    isplitl [HO]; · iexists ∅; iexact HO
    isplitl [H1] <;> iassumption
  isplitl [Hv] <;> iassumption

theorem deal (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (started m) : sProp 𝕄) := by
  have hk : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop(bigSep Finset.univ (kept m) ∗ (bigSep Finset.univ fun c : Dev nD => semVal (barCell c) 0) ∗ bigSep Finset.univ (parked (F := F))) : sProp 𝕄) := by
    refine (bigSep_mono fun c _ => keep m c ρ).trans ?_
    rw [bigSep_sep', bigSep_sep']
    exact BI.Entails.refl _
  have hv : (bigSep Finset.univ fun c : Dev nD => (semVal (barCell c) 0 : sProp 𝕄)) ⊢ bigSep barCells fun g => semVal g 0 :=
    Entails.of_eq (bigSep_map (s := Finset.univ) barEmb (Φ := fun g : GSem nD τ sig => (semVal g 0 : sProp 𝕄))).symm
  have hat : (bigSep barCells fun g => (atPos ER g 0 ∅ 0 : sProp 𝕄)) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have hre : (bigSep barCells fun g => (reached ER g 0 : sProp 𝕄)) ⊢ barOpen :=
    Entails.of_eq (bigSep_map (s := Finset.univ) barEmb (Φ := fun g : GSem nD τ sig => (reached ER g 0 : sProp 𝕄)))
  have hop : (bigSep ownCells fun g => (openTok ER g : sProp 𝕄)) ⊢ bigSep Finset.univ fun c : Dev nD => opens (F := F) c :=
    Entails.of_eq (by unfold ownCells; rw [bigSep_map, bigSep_univ_prod]; rfl)
  iintro ⟨H, -⟩
  ihave H := hk $$ H
  icases H with ⟨Hk, Hv, Hp⟩
  ihave Hu := (Entails.of_eq (parked_all (F := F))) $$ Hp
  imod (Rounds.fund_launch ER (Rd m) cells_apart (fun g _ h => h) allTokens) $$ [Hv Hu] with ⟨%κ, -, #Hinv, #Hr, Hat, Hopen, Htok⟩
  · isplitl [Hv]
    · iapply hv $$ Hv
    · iexact Hu
  imodintro
  ihave #Hb := hre $$ Hr
  ihave Hat := hat $$ Hat
  ihave Hop := hop $$ Hopen
  ihave Htok := (tokens_deal (F := F)) $$ Htok
  iapply (bigSep_with_persistent (R := iprop(recs m κ ∗ barOpen))
    (Φ := fun c : Dev nD => iprop(((atPos ER (barCell c) 0 ∅ 0 ∗ opens c) ∗ tokens c) ∗ kept m c)) fun c _ => started_intro m κ c)
  isplitr
  · isplitr
    · unfold recs; iexact Hinv
    · iexact Hb
  iapply (family_zip _ _ _ fun i => Entails.refl _)
  isplitr [Hk]
  · iapply (family_zip _ _ _ fun i => Entails.refl _)
    isplitr [Htok]
    · iapply (family_zip _ _ _ fun i => Entails.refl _)
      isplitl [Hat] <;> iassumption
    · iexact Htok
  · iexact Hk

/-! ## The run -/

/-- Device `c`'s program: the host stretch, then the region. -/
def parts (m : (ℓ : Loc nD τ sig) → Buf (Elt F) ℓ) (c : Dev nD) : List (Pipeline.PerCore.Seg (pcfgs (F := F)) adms (dats m) () (defs₀ (F := F)) 𝒱₀ L lv) :=
  [.host (Pipeline.HostSeg.ofOps _ _ _ _ _ (Pipeline.ucRefs τ sig) (hostOps0 c)
      (fun op h => Pipeline.sub_ucRefs op ((List.forall_iff_forall_mem.mp (hostOps0_sub c)) op h))
      (fun op h => (List.forall_iff_forall_mem.mp (hostOps0_fresh c)) op h) (V0 m) (carry m)), .region (region m)]

theorem only_bar : ∀ sm : SemLoc sig, sm.isScoped .tc = false → sm = .reg barS := by decide

set_option backward.isDefEq.respectTransparency.types false in
/-- Every execution ends, the result assembled on each device, the arguments as they were, every counter at zero. -/
theorem run_main (ρ : Dev nD → PrngReg) : θ_run defs (onTc (τ := τ) (main (F := F))) ⟨m, fun _ => 0, ρ⟩ (fun r =>
    (∀ c : Dev nD, r.2.mem ((c.tc : Thread nD τ).loc main_v6) = Ov m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.PerCore.θ_run_regions_kit_sems (pcfgs (F := F)) adms (dats m) () cells_inj EP defs₀ 𝒱₀ L lv m ρ main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide)
    O₀ L_of_ne parked (u₀ F)
    (by
      unfold u₀
      iintro Hu
      ihave H := (ownU_pair _ _) $$ Hu
      icases H with ⟨HP, HX⟩
      imodintro
      isplitl [HP]; · iexact HP
      rw [parked_all]; iexact HX)
    (started m) (done m)
    (fun c => ⟨.rfl, .rfl, .rfl⟩)
    (deal m ρ)
    (fun c s => (s.mem ((c.tc : Thread nD τ).loc main_v6) = Ov m c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (fun c s' => by
      unfold done outcome
      iintro ⟨⟨⟨Ha, Hb, Ho⟩, Hv⟩, HSI⟩
      icombine HSI Ha gives %ha
      icombine HSI Hb gives %hb
      icombine HSI Ho gives %ho
      icombine HSI Hv gives %hv
      imodintro
      isplitr
      · ipureintro
        exact ⟨⟨Buf.eq_of_forall_mem_univ ho, Buf.eq_of_forall_mem_univ ha, Buf.eq_of_forall_mem_univ hb⟩, by simpa using hv⟩
      iexact HSI)
    (fun s h hs => ⟨fun c => (h c).1, sem_eq_zero hs fun c sm hsm => by
      obtain rfl := only_bar sm hsm
      exact (h c).2⟩)

end Cert.KernelIdeal.Exchange
-- ==== Proof.Value.lean ====
/-
  Value: with exact arithmetic, a device's result is its columns of the whole product with silu applied, which is the reference's
  block where the precondition holds.
-/
module

public import proofs.«01_k».proof.Proof.Protocol
public import proofs.«01_k».proof.Defs
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.Pipeline.Value

@[expose] public section

noncomputable section

/-- The precondition's side conditions, of one device's blocks. -/
instance Cert.Pre_in_range_KernelIdeal.sides : Cert.Pre_in_range_KernelIdeal.Facts where
  bitsLt_bf16_f32 := by decide
  bcast_S_S256x8192 := by decide
  dot_S256x4096_S4096x8192_S256x8192_1_0_0_1_n_n_wf := (Idealize.ShloMosaic.DotDims.plain 256 4096 8192).wf

/-- The same of the whole arrays. -/
instance Cert.Pre_in_range_ReferenceIdeal.sides : Cert.Pre_in_range_ReferenceIdeal.Facts where
  bitsLt_bf16_f32 := by decide
  bcast_S_S4096x8192 := by decide
  dot_S4096x4096_S4096x8192_S4096x8192_1_0_0_1_n_n_wf := (Idealize.ShloMosaic.DotDims.plain 4096 4096 8192).wf

namespace Cert.KernelIdeal.Exchange

open Cert.KernelIdeal Cert.KernelIdeal.Gen
open Idealize.ShloMosaic Idealize.ShloMosaic.TcCoe Idealize.ShloMosaic.ValueIdx Idealize.ShloMosaic.StackMember
open scoped BigOperators

/-! ## Silu -/

theorem sixty : Ideal.ofBits .f32 0x42700000#32 = ((60 : ℝ) : EReal) := by
  simp [Ideal.ofBits, Ideal.ieee, -EReal.coe_mul]; norm_num
theorem minus_sixty : Ideal.ofBits .f32 0xC2700000#32 = ((-60 : ℝ) : EReal) := by
  simp [Ideal.ofBits, Ideal.ieee, -EReal.coe_mul, -EReal.coe_neg]; norm_num
theorem infinity : Ideal.ofBits .f32 0x7F800000#32 = (⊤ : EReal) := by simp [Ideal.ofBits, Ideal.ieee]

theorem exp_nonneg (x : EReal) : 0 ≤ Ideal.exp x := by
  induction x with
  | bot => exact le_refl _
  | top => exact le_top
  | coe r => exact EReal.coe_nonneg.mpr (Real.exp_nonneg r)

theorem one_add_exp_ne (x : EReal) : 1 + Ideal.exp x ≠ 0 := by
  have h : (1 : EReal) ≤ 1 + Ideal.exp x := le_add_of_nonneg_right (exp_nonneg x)
  intro e; rw [e] at h; exact absurd h (by simp)

/-- Silu as the kernel writes it. -/
def silu (y : EReal) : EReal := y * Ideal.div 1 (1 + Ideal.exp (0 - y))
/-- Silu as the reference writes it, its exponent clipped. -/
def siluClip (y : EReal) : EReal := Ideal.div y (1 + Ideal.exp (-(min ((60 : ℝ) : EReal) (max ((-60 : ℝ) : EReal) y))))

theorem silu_eq {y : EReal} (h : (((-60 : ℝ) : EReal) ≤ y ∧ y ≤ ((60 : ℝ) : EReal)) ∨ y = ⊤) : silu y = siluClip y := by
  unfold silu siluClip
  rw [Ideal.mul_one_div (one_add_exp_ne _), sub_eq_add_neg, zero_add]
  rcases h with ⟨h₁, h₂⟩ | rfl
  · rw [max_eq_right h₁, min_eq_right h₂]
  · rw [max_eq_right le_top, min_eq_left le_top, ← EReal.coe_neg]
    unfold Ideal.div
    rw [if_neg (one_add_exp_ne _), if_neg (one_add_exp_ne _)]
    show ⊤ * (1 + (0 : EReal))⁻¹ = ⊤ * (1 + ((Real.exp (-60) : ℝ) : EReal))⁻¹
    rw [add_zero, inv_one, mul_one, ← EReal.coe_one, ← EReal.coe_add, ← EReal.coe_inv,
      EReal.top_mul_coe_of_pos (inv_pos.mpr (by have := Real.exp_pos (-60); linarith))]

/-! ## The product -/

variable (m : (ℓ : Loc nD τ sig) → Buf (Elt Ideal) ℓ)

/-- The right operand as device `c` holds it. -/
def Wf (c : Dev nD) : FVec Ideal S4096x8192 .bf16 := m ((c.tc : Thread nD τ).loc main_arg1)

/-- Entry (a, b) of the product of device `c`'s rows with the whole right operand. -/
def prod (c : Dev nD) (a : Fin 256) (b : Fin 8192) : EReal :=
  ∑ k : Fin 4096, (Xb m c (ix2 a k) : EReal) * (Wf m c (ix2 k b) : EReal)

/-- Column `b` of device `j`'s part, in the whole. -/
def col (j : Fin 16) (b : Fin 512) : Fin 8192 := ⟨512 * j.val + b.val, by have := j.isLt; have := b.isLt; omega⟩

theorem part_apply (c j : Dev nD) (a : Fin 256) (b : Fin 512) : (Yb m c j (ix2 a b) : EReal) = prod m c a (col j b) := by
  have e : dot_S256x4096_S4096x512_S256x512_1_0_0_1_n_n = DotDims.plain 256 4096 512 := rfl
  show (k0_pay3 (Xb m c) (Wb m c j) (ix2 a b) : EReal) = _
  unfold k0_pay3 k0_pay2
  dsimp only
  rw [shapeCast_self, shapeCast_self, e]
  show (FloatOps.matmul (φ₁ := .bf16) (φ₂ := .bf16) (DotDims.plain 256 4096 512) none (Xb m c) (Wb m c j) (constant S256x512 .f32 0x00000000#32) (ix2 a b) : EReal) = _
  rw [Ideal.matmul_plain_apply]
  show (Ideal.ofBits .f32 0x00000000#32 : EReal) + _ = _
  rw [Ideal.ofBits_zero_f32, zero_add]
  refine Finset.sum_congr rfl fun k _ => ?_
  refine congrArg₂ (fun u v : EReal => u * v) rfl ?_
  show Wf m c _ = Wf m c _
  refine congrArg _ (funext fun d => ?_)
  match d with | ⟨0, _⟩ => rfl | ⟨1, _⟩ => rfl

/-- The row of an entry within its block, and its column. -/
def row (x : S4096x512.Idx) : Fin 256 := ⟨(x 0).val % 256, Nat.mod_lt _ (by decide)⟩
def lane (x : S4096x512.Idx) : Fin 512 := ⟨(x 1).val, (x 1).isLt⟩

theorem result_apply (c : Dev nD) (x : S4096x512.Idx) :
    (Ov m c x : EReal) = silu (prod m (blockOf x) (row x) (col c (lane x))) := by
  have e : within x = (ix2 (row x) (lane x) : (⟨2, ![256, 512]⟩ : Shape).Idx) := by
    funext d; match d with | ⟨0, _⟩ => rfl | ⟨1, _⟩ => rfl
  have h : (Ov m c x : EReal) = silu (Yb m (blockOf x) c (within x)) := by
    show (k0_pay7 (Yb m (blockOf x) c) (within x) : EReal) = _
    show (Yb m (blockOf x) c (within x) : EReal) * Ideal.div (Ideal.ofBits .f32 0x3F800000#32) (Ideal.ofBits .f32 0x3F800000#32
      + Ideal.exp (Ideal.ofBits .f32 0x00000000#32 - Yb m (blockOf x) c (within x))) = _
    rw [Ideal.ofBits_one_f32, Ideal.ofBits_zero_f32]; rfl
  rw [h, show (Yb m (blockOf x) c (within x) : EReal) = Yb m (blockOf x) c (ix2 (row x) (lane x)) from congrArg (Yb m (blockOf x) c) e]
  exact congrArg silu (part_apply m (blockOf x) c (row x) (lane x))

/-- What the precondition says of an entry. -/
theorem bounded (h : Cert.Pre_KernelIdeal_in_range_KernelIdeal m) (c : Dev nD) (a : Fin 256) (b : Fin 8192) :
    (((-60 : ℝ) : EReal) ≤ prod m c a b ∧ prod m c a b ≤ ((60 : ℝ) : EReal)) ∨ prod m c a b = ⊤ := by
  have e : Cert.Pre_in_range_KernelIdeal.dot_S256x4096_S4096x8192_S256x8192_1_0_0_1_n_n = DotDims.plain 256 4096 8192 := rfl
  have hp := congrFun (h c) (ix2 a b)
  have hd : Host.dotGeneral (DotDims.plain 256 4096 8192) none (extf .f32 (Xb m c) Cert.Pre_in_range_KernelIdeal.Facts.bitsLt_bf16_f32)
      (extf .f32 (Wf m c) Cert.Pre_in_range_KernelIdeal.Facts.bitsLt_bf16_f32) (ix2 a b) = prod m c a b := dotGeneral_plain_apply _ _ _ _ _
  replace hp : (Ideal.cmp .oge (prod m c a b) (Ideal.ofBits .f32 0xC2700000#32) &&& Ideal.cmp .ole (prod m c a b) (Ideal.ofBits .f32 0x42700000#32))
      ||| Ideal.cmp .oeq (prod m c a b) (Ideal.ofBits .f32 0x7F800000#32) = 1#1 := by
    rw [← hd, ← hp]; rfl
  rw [sixty, minus_sixty, infinity] at hp
  unfold Ideal.cmp at hp
  by_contra hn
  rw [not_or, not_and_or] at hn
  obtain ⟨h₁, h₂⟩ := hn
  dsimp only at hp
  rw [decide_eq_false h₂] at hp
  rcases h₁ with h₁ | h₁
  · rw [decide_eq_false h₁] at hp
    revert hp; cases decide (prod m c a b ≤ ((60 : ℝ) : EReal)) <;> decide
  · rw [decide_eq_false h₁] at hp
    revert hp; cases decide (((-60 : ℝ) : EReal) ≤ prod m c a b) <;> decide

/-! ## The reference -/

section

variable (X : FVec Ideal Cert.ReferenceIdeal.S4096x4096 .bf16) (W : FVec Ideal Cert.ReferenceIdeal.S4096x8192 .bf16)

/-- The reference's result. -/
def whole : FVec Ideal Cert.ReferenceIdeal.S4096x8192 .f32 := fun y =>
  siluClip (∑ k : Fin 4096, (X (ix2 (y 0) k) : EReal) * (W (ix2 k (y 1)) : EReal))

end

/-- The assembled result is the reference's block. -/
theorem blocks (X : FVec Ideal Cert.ReferenceIdeal.S4096x4096 .bf16) (W : FVec Ideal Cert.ReferenceIdeal.S4096x8192 .bf16)
    (h : Cert.Pre_KernelIdeal_in_range_KernelIdeal m)
    (hX : ∀ c : Dev nD, m ((c.tc : Thread nD τ).loc main_arg0) = Layout.block ⟨2, ![256, 4096]⟩ ⟨2, ![4096, 4096]⟩ 0 16 c X)
    (hW : ∀ c : Dev nD, m ((c.tc : Thread nD τ).loc main_arg1) = W) (c : Dev nD) :
    Ov m c = Layout.block ⟨2, ![4096, 512]⟩ ⟨2, ![4096, 8192]⟩ 1 16 c (whole X W) := by
  funext x
  show (Ov m c x : EReal) = _
  rw [result_apply, silu_eq (bounded m h _ _ _), Layout.block_apply]
  refine congrArg siluClip (Finset.sum_congr rfl fun k _ => ?_)
  unfold Xb Wf
  rw [hX, hW, Layout.block_apply]
  refine congrArg₂ (fun u v : EReal => u * v) (congrArg X (funext fun d => ?_)) (congrArg W (funext fun d => ?_))
  · match d with
    | ⟨0, _⟩ =>
      refine Fin.ext ?_
      show (x 0).val / 256 * 256 + (x 0).val % 256 = (x 0).val
      omega
    | ⟨1, _⟩ => rfl
  · match d with
    | ⟨0, _⟩ => rfl
    | ⟨1, _⟩ =>
      refine Fin.ext ?_
      show 512 * c.val + (x 1).val = c.val * 512 + (x 1).val
      omega

end Cert.KernelIdeal.Exchange

namespace Cert.ReferenceIdeal.Silu

open Cert.ReferenceIdeal Cert.ReferenceIdeal.Gen
open Idealize.ShloMosaic Idealize.ShloMosaic.ValueIdx Idealize.ShloMosaic.StackMember
open scoped BigOperators

/-- The term the reference computes, entry by entry. -/
theorem term_eq (X : FVec Ideal S4096x4096 .bf16) (W : FVec Ideal S4096x8192 .bf16) :
    Host.divf (Host.dotGeneral dot_S4096x4096_S4096x8192_S4096x8192_1_0_0_1_n_n none (extf .f32 X bitsLt_bf16_f32) (extf .f32 W bitsLt_bf16_f32))
      (addf (broadcastInDim S4096x8192 ![] bcast_S_S4096x8192 (constant S_ .f32 0x3F800000#32))
        (Host.exp (Host.negf (minimumf (broadcastInDim S4096x8192 ![] bcast_S_S4096x8192 (id (constant S_ .f32 0x42700000#32)))
          (maximumf (broadcastInDim S4096x8192 ![] bcast_S_S4096x8192 (id (constant S_ .f32 0xC2700000#32)))
            (Host.dotGeneral dot_S4096x4096_S4096x8192_S4096x8192_1_0_0_1_n_n none (extf .f32 X bitsLt_bf16_f32) (extf .f32 W bitsLt_bf16_f32)))))))
      = Cert.KernelIdeal.Exchange.whole X W := by
  funext y
  have e : dot_S4096x4096_S4096x8192_S4096x8192_1_0_0_1_n_n = DotDims.plain 4096 4096 8192 := rfl
  have hd : Host.dotGeneral (F := Ideal) dot_S4096x4096_S4096x8192_S4096x8192_1_0_0_1_n_n none (extf .f32 X bitsLt_bf16_f32) (extf .f32 W bitsLt_bf16_f32) y
      = (∑ k : Fin 4096, (X (ix2 (y 0) k) : EReal) * (W (ix2 k (y 1)) : EReal) : EReal) := by
    rw [e]
    have hy : y = ix2 (y 0) (y 1) := eq_ix2 y
    rw [hy]; exact dotGeneral_plain_apply _ _ _ _ _
  unfold Cert.KernelIdeal.Exchange.whole Cert.KernelIdeal.Exchange.siluClip
  rw [← hd, ← Cert.KernelIdeal.Exchange.sixty, ← Cert.KernelIdeal.Exchange.minus_sixty, ← Ideal.ofBits_one_f32]
  rfl

end Cert.ReferenceIdeal.Silu
-- ==== Proof.Same.lean ====
/-
  Same: the program as printed and its idealization are one program, at any float values.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

theorem body_same : Cert.Kernel.cc0_body (F := F) = Cert.KernelIdeal.cc0_body (F := F) := rfl

/-- The kernels' tables: one label on the TensorCore, none elsewhere. -/
theorem table_same : Cert.Kernel.defs₀ (F := F) = Cert.KernelIdeal.defs₀ (F := F) := by
  funext p l a
  match p, l, a with
  | .tc, ⟨0, _⟩, (t, s) => exact rfl
  | .tc, ⟨_ + 1, h⟩, _ => exact absurd h (Nat.not_lt.2 (Nat.le_add_left _ _))
  | .scScalar _, _, _ => rfl
  | .scVector _ _, _, _ => rfl

theorem defs_same : Cert.Kernel.defs (F := F) = Cert.KernelIdeal.defs (F := F) := by
  show Pipeline.defs (Cert.Kernel.pcfgs (F := F)) (Cert.Kernel.defs₀ (F := F)) = _
  rw [table_same]
  rfl

theorem main_same : Cert.Kernel.main (F := F) = Cert.KernelIdeal.main (F := F) := rfl

/-- What one run establishes, the other does. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]; exact h

end Cert.Same

end
-- ==== Proof.lean ====
/-
  The claims, from the kernel's run on every device (Proof/Start.lean), the reference's run, and the equation between their
  values (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Start
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  Cert.Same.run_same _ _ ((θ_run Cert.KernelIdeal.defs _ _).mono (fun _ h => ⟨fun c => (h.1 c).2, h.2⟩)
    (Cert.KernelIdeal.Exchange.run_main (F := Bits) m ρ))

theorem frame_ideal : Cert.quiescent_KernelIdeal := fun m ρ _ =>
  (θ_run Cert.KernelIdeal.defs _ _).mono (fun _ h => ⟨fun c => (h.1 c).2, h.2⟩) (Cert.KernelIdeal.Exchange.run_main (F := Ideal) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem equal : Cert.algebraic_KernelIdeal_ReferenceIdeal_pre_in_range_KernelIdeal := fun m ρ m' ρ' hp hm =>
  ⟨Cert.KernelIdeal.Exchange.whole _ _,
    (θ_run Cert.KernelIdeal.defs _ _).mono (fun _ h c => ⟨(h.1 c).1.trans (Cert.KernelIdeal.Exchange.blocks m _ _ hp (fun c => (hm c).1) (fun c => (hm c).2) c),
      (h.1 c).2⟩) (Cert.KernelIdeal.Exchange.run_main (F := Ideal) m ρ),
    (θ_run Cert.ReferenceIdeal.defs _ _).mono (fun _ h => ⟨(h 0).1.trans (Cert.ReferenceIdeal.Silu.term_eq _ _), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range_KernelIdeal.sides, Cert.Pre_in_range_ReferenceIdeal.sides,
    frame_kernel, frame_ideal, fun m ρ _ => frame_ideal m ρ trivial, frame_reference, fun m ρ _ => frame_reference m ρ trivial, trivial, equal⟩

end Cert.Proof

end
